-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_tables : Cert.Pre_tables.Facts] (m : (ℓ : Loc Cert.Kernel3.nD Cert.Kernel3.τ Cert.Kernel3.sig) → Buf (Elt Bits) ℓ) : Prop :=
  ∀ c : Dev Cert.Kernel3.nD,
    (Cert.Pre_tables.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).1 = (fun _ => 1#1)
    ∧ (Cert.Pre_tables.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).2.1 = (fun _ => 1#1)
    ∧ (Cert.Pre_tables.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).2.2 = (fun _ => 1#1)

def Pre_Kernel3Ideal [hPre_tables : Cert.Pre_tables.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables [hPre_tables : Cert.Pre_tables.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_tables : Cert.Pre_tables.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_tables : Cert.Pre_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_tables [hReference3Ideal : Cert.Reference3Ideal.Facts] [hPre_tables : Cert.Pre_tables.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_tables : Cert.Pre_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_tables : Cert.Pre_tables.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_tables := hPre_tables)
    ∧ quiescent_Kernel3Ideal (hKernel3Ideal := hKernel3Ideal) (hPre_tables := hPre_tables)
    ∧ quiescent_Reference3Ideal (hReference3Ideal := hReference3Ideal)
    ∧ quiescent_Reference3Ideal_pre_tables (hReference3Ideal := hReference3Ideal) (hPre_tables := hPre_tables)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_tables := hPre_tables)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S32768x768 : Shape := ⟨2, ![32768, 768]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S32768x768 : S_.BroadcastsInDim S32768x768 (![] : Fin 0 → Fin S32768x768.rank)
  bcast_S_S1x64 : S_.BroadcastsInDim S1x64 (![] : Fin 0 → Fin S1x64.rank)

variable [Facts]

def fn_part1 {F : FTy → Type} [FloatOps F] (main_arg6 : FVec F S1x64 .f32) (main_v3 : IVec S32768x768 1) (main_v7 : IVec S32768x768 1) (main_v11 : IVec S32768x768 1) (main_v14 : IVec S1x64 1) (main_v17 : IVec S1x64 1) (main_v18 : FVec F S1x64 .f32) : IVec S32768x768 1 × IVec S32768x768 1 × IVec S32768x768 1 × IVec S1x64 1 × IVec S1x64 1 × IVec S1x64 1 × IVec S1x64 1 :=
  let main_cst_4 : FVec F S_ .f32 := constant S_ .f32 0x7F800000#32
  let main_v19 : FVec F S1x64 .f32 := broadcastInDim S1x64 ![] bcast_S_S1x64 main_cst_4
  let main_v20 : IVec S1x64 1 := cmpf .olt main_v18 main_v19
  let main_v21 : FVec F S1x64 .f32 := Host.absf main_arg6
  let main_cst_5 : FVec F S_ .f32 := constant S_ .f32 0x7F800000#32
  let main_v22 : FVec F S1x64 .f32 := broadcastInDim S1x64 ![] bcast_S_S1x64 main_cst_5
  let main_v23 : IVec S1x64 1 := cmpf .olt main_v21 main_v22
  (main_v3, main_v7, main_v11, main_v14, main_v17, main_v20, main_v23)

def fn {F : FTy → Type} [FloatOps F] (main_arg0 : FVec F S32768x768 .bf16) (main_arg1 : FVec F S32768x768 .bf16) (main_arg2 : FVec F S32768x768 .bf16) (main_arg3 : FVec F S1x64 .f32) (main_arg4 : FVec F S1x64 .f32) (main_arg5 : FVec F S1x64 .f32) (main_arg6 : FVec F S1x64 .f32) (main_arg7 : FVec F S1x128 .f32) : IVec S32768x768 1 × IVec S32768x768 1 × IVec S32768x768 1 × IVec S1x64 1 × IVec S1x64 1 × IVec S1x64 1 × IVec S1x64 1 :=
  let main_v0 : FVec F S32768x768 .f32 := (extf .f32 · bitsLt_bf16_f32) main_arg0
  let main_v1 : FVec F S32768x768 .f32 := Host.absf main_v0
  let main_cst : FVec F S_ .f32 := constant S_ .f32 0x7F800000#32
  let main_v2 : FVec F S32768x768 .f32 := broadcastInDim S32768x768 ![] bcast_S_S32768x768 main_cst
  let main_v3 : IVec S32768x768 1 := cmpf .olt main_v1 main_v2
  let main_v4 : FVec F S32768x768 .f32 := (extf .f32 · bitsLt_bf16_f32) main_arg1
  let main_v5 : FVec F S32768x768 .f32 := Host.absf main_v4
  let main_cst_0 : FVec F S_ .f32 := constant S_ .f32 0x7F800000#32
  let main_v6 : FVec F S32768x768 .f32 := broadcastInDim S32768x768 ![] bcast_S_S32768x768 main_cst_0
  let main_v7 : IVec S32768x768 1 := cmpf .olt main_v5 main_v6
  let main_v8 : FVec F S32768x768 .f32 := (extf .f32 · bitsLt_bf16_f32) main_arg2
  let main_v9 : FVec F S32768x768 .f32 := Host.absf main_v8
  let main_cst_1 : FVec F S_ .f32 := constant S_ .f32 0x7F800000#32
  let main_v10 : FVec F S32768x768 .f32 := broadcastInDim S32768x768 ![] bcast_S_S32768x768 main_cst_1
  let main_v11 : IVec S32768x768 1 := cmpf .olt main_v9 main_v10
  let main_v12 : FVec F S1x64 .f32 := Host.absf main_arg3
  let main_cst_2 : FVec F S_ .f32 := constant S_ .f32 0x7F800000#32
  let main_v13 : FVec F S1x64 .f32 := broadcastInDim S1x64 ![] bcast_S_S1x64 main_cst_2
  let main_v14 : IVec S1x64 1 := cmpf .olt main_v12 main_v13
  let main_v15 : FVec F S1x64 .f32 := Host.absf main_arg4
  let main_cst_3 : FVec F S_ .f32 := constant S_ .f32 0x7F800000#32
  let main_v16 : FVec F S1x64 .f32 := broadcastInDim S1x64 ![] bcast_S_S1x64 main_cst_3
  let main_v17 : IVec S1x64 1 := cmpf .olt main_v15 main_v16
  let main_v18 : FVec F S1x64 .f32 := Host.absf main_arg5
  fn_part1 (F := F) main_arg6 main_v3 main_v7 main_v11 main_v14 main_v17 main_v18
-- ==== Pre_tables.lean ====
abbrev S72 : Shape := ⟨1, ![72]⟩
abbrev S1 : Shape := ⟨1, ![1]⟩
abbrev S73728x1024 : Shape := ⟨2, ![73728, 1024]⟩
abbrev S1x8x1024x3584 : Shape := ⟨4, ![1, 8, 1024, 3584]⟩
abbrev S1x8x3584x1024 : Shape := ⟨4, ![1, 8, 3584, 1024]⟩
abbrev S_ : Shape := ⟨0, ![]⟩

class Facts : Prop where
  bcast_S_S72 : S_.BroadcastsInDim S72 (![] : Fin 0 → Fin S72.rank)
  bcast_S_S1 : S_.BroadcastsInDim S1 (![] : Fin 0 → Fin S1.rank)

variable [Facts]

def fn {F : FTy → Type} [FloatOps F] (main_arg0 : IVec S72 32) (main_arg1 : IVec S1 32) (main_arg2 : FVec F S73728x1024 .f32) (main_arg3 : FVec F S1x8x1024x3584 .f32) (main_arg4 : FVec F S1x8x1024x3584 .f32) (main_arg5 : FVec F S1x8x3584x1024 .f32) : IVec S72 1 × IVec S72 1 × IVec S1 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_c_1 : IVec S_ 32 := constantI S_ 32 1#32
  let main_v4 : IVec S1 32 := broadcastInDim S1 ![] bcast_S_S1 main_c_1
  let main_v5 : IVec S1 1 := cmpi .sge main_arg1 main_v4
  (main_v1, main_v3, main_v5)
-- ==== Kernel.lean ====
abbrev S32768x768 : Shape := ⟨2, ![32768, 768]⟩
abbrev S1x64 : Shape := ⟨2, ![1, 64]⟩
abbrev S1x128 : Shape := ⟨2, ![1, 128]⟩
abbrev S64 : Shape := ⟨1, ![64]⟩
abbrev S4x64 : Shape := ⟨2, ![4, 64]⟩
abbrev S_ : Shape := ⟨0, ![]⟩
abbrev S8x128 : Shape := ⟨2, ![8, 128]⟩
abbrev S128 : Shape := ⟨1, ![128]⟩
abbrev S256x128 : Shape := ⟨2, ![256, 128]⟩
abbrev S8192x128 : Shape := ⟨2, ![8192, 128]⟩
abbrev S512x128 : Shape := ⟨2, ![512, 128]⟩
abbrev S512x1 : Shape := ⟨2, ![512, 1]⟩
abbrev S512x256 : Shape := ⟨2, ![512, 256]⟩
abbrev S512 : Shape := ⟨1, ![512]⟩
abbrev S1 : Shape := ⟨1, ![1]⟩
abbrev S1x1 : Shape := ⟨2, ![1, 1]⟩
abbrev S256x1 : Shape := ⟨2, ![256, 1]⟩
abbrev S256 : Shape := ⟨1, ![256]⟩

abbrev nBuf : Space → Nat
  | .hbm => 23
  | .vmem => 14
  | .smem => 0
  | _ => 0

abbrev bufTy : (tb : Table) → Fin (tcTables nBuf tb) → BufTy
  | .hbm, ⟨0, _⟩ => ⟨S32768x768, .bf16⟩
  | .hbm, ⟨1, _⟩ => ⟨S32768x768, .bf16⟩
  | .hbm, ⟨2, _⟩ => ⟨S32768x768, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S4x64, .f32⟩
  | .hbm, ⟨17, _⟩ => ⟨S_, .i32⟩
  | .hbm, ⟨18, _⟩ => ⟨S_, .f32⟩
  | .hbm, ⟨19, _⟩ => ⟨S8x128, .f32⟩
  | .hbm, ⟨20, _⟩ => ⟨S128, .f32⟩
  | .hbm, ⟨21, _⟩ => ⟨S1x128, .f32⟩
  | .hbm, ⟨22, _⟩ => ⟨S32768x768, .bf16⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S8x128, .f32⟩
  | .local _ .vmem, ⟨7, _⟩ => ⟨S1x128, .f32⟩
  | .local _ .vmem, ⟨8, _⟩ => ⟨S256x128, .bf16⟩
  | .local _ .vmem, ⟨9, _⟩ => ⟨S256x128, .bf16⟩
  | .local _ .vmem, ⟨10, _⟩ => ⟨S512x128, .bf16⟩
  | .local _ .vmem, ⟨11, _⟩ => ⟨S512x1, .f32⟩
  | .local _ .vmem, ⟨12, _⟩ => ⟨S512x1, .f32⟩
  | .local _ .vmem, ⟨13, _⟩ => ⟨S512x128, .f32⟩
  | _, _ => ⟨S32768x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 6, 32], ![false, false, false]⟩

@[reducible] def k0_t1_loop (i : grid0.Coords) : Scf.Loop 32 :=
  let c0_i32_21 : BitVec 32 := 0#32
  let arg2 : BitVec 32 := BitVec.ofNat 32 (i 2).val
  let c256_i32 : BitVec 32 := 256#32
  let v28 : BitVec 32 := Scalar.muli arg2 c256_i32
  let c0_i32 : BitVec 32 := 0#32
  let v30 : BitVec 1 := Scalar.cmpi .sgt v28 c0_i32
  let v31 : BitVec 32 := Scalar.extui v30
  let c0_i32_16 : BitVec 32 := 0#32
  let v32 : BitVec 1 := Scalar.cmpi .slt v28 c0_i32_16
  let v33 : BitVec 32 := Scalar.extui v32
  let v34 : BitVec 32 := Scalar.subi v31 v33
  let c256_i32_15 : BitVec 32 := 256#32
  let c0_i32_17 : BitVec 32 := 0#32
  let v35 : BitVec 1 := Scalar.cmpi .sgt c256_i32_15 c0_i32_17
  let v36 : BitVec 32 := Scalar.extui v35
  let c0_i32_18 : BitVec 32 := 0#32
  let v37 : BitVec 1 := Scalar.cmpi .slt c256_i32_15 c0_i32_18
  let v38 : BitVec 32 := Scalar.extui v37
  let v39 : BitVec 32 := Scalar.subi v36 v38
  let v40 : BitVec 1 := Scalar.cmpi .ne v34 v39
  let v41 : BitVec 32 := Scalar.remsi v28 c256_i32_15
  let c0_i32_19 : BitVec 32 := 0#32
  let v42 : BitVec 1 := Scalar.cmpi .ne v41 c0_i32_19
  let v43 : BitVec 1 := Scalar.andi v40 v42
  let v29 : BitVec 32 := Scalar.divsi v28 c256_i32_15
  let c1_i32 : BitVec 32 := 1#32
  let v44 : BitVec 32 := Scalar.subi v29 c1_i32
  let v45 : BitVec 32 := Scalar.select v43 v44 v29
  let v46 : BitVec 32 := Scalar.subi v45 c0_i32_21
  let c1_i32_22 : BitVec 32 := 1#32
  let v48 : BitVec 32 := Scalar.divsi v46 c1_i32_22
  let v49 : BitVec 32 := Scalar.muli v48 c1_i32_22
  let v50 : BitVec 32 := Scalar.addi c0_i32_21 v49
  let c1_i32_23 : BitVec 32 := 1#32
  ⟨c0_i32_21, v50, c1_i32_23⟩
def k0_mult1 (i : grid0.Coords) (k0_t1 : Fin (k0_t1_loop i).trips) : BitVec 32 :=
  let c0_i32_21 : BitVec 32 := 0#32
  let c1_i32_23 : BitVec 32 := 1#32
  let arg13 : BitVec 32 := Scf.iv c0_i32_21 c1_i32_23 k0_t1
  let c256_i32_78 : BitVec 32 := 256#32
  let v164 : BitVec 32 := Scalar.muli arg13 c256_i32_78
  v164
def k0_off1 (i : grid0.Coords) (k0_t1 : Fin (k0_t1_loop i).trips) : Fin 2 → Nat :=
  let c0_i32_21 : BitVec 32 := 0#32
  let c1_i32_23 : BitVec 32 := 1#32
  let arg13 : BitVec 32 := Scf.iv c0_i32_21 c1_i32_23 k0_t1
  let c256_i32_78 : BitVec 32 := 256#32
  let v164 : BitVec 32 := Scalar.muli arg13 c256_i32_78
  let v165 : BitVec 32 := v164
  let v166 : Index := Scalar.indexCast v165
  let c0_79 : Index := 0#32
  ![v166.toNat, 0]
def k0_mult2 (i : grid0.Coords) (k0_t1 : Fin (k0_t1_loop i).trips) : BitVec 32 :=
  let c0_i32_21 : BitVec 32 := 0#32
  let c1_i32_23 : BitVec 32 := 1#32
  let arg13 : BitVec 32 := Scf.iv c0_i32_21 c1_i32_23 k0_t1
  let c256_i32_80 : BitVec 32 := 256#32
  let v168 : BitVec 32 := Scalar.muli arg13 c256_i32_80
  v168
@[reducible] def k0_t2_loop (i : grid0.Coords) : Scf.Loop 32 :=
  let c0_i32_21 : BitVec 32 := 0#32
  let arg2 : BitVec 32 := BitVec.ofNat 32 (i 2).val
  let c256_i32 : BitVec 32 := 256#32
  let v28 : BitVec 32 := Scalar.muli arg2 c256_i32
  let c0_i32 : BitVec 32 := 0#32
  let v30 : BitVec 1 := Scalar.cmpi .sgt v28 c0_i32
  let v31 : BitVec 32 := Scalar.extui v30
  let c0_i32_16 : BitVec 32 := 0#32
  let v32 : BitVec 1 := Scalar.cmpi .slt v28 c0_i32_16
  let v33 : BitVec 32 := Scalar.extui v32
  let v34 : BitVec 32 := Scalar.subi v31 v33
  let c256_i32_15 : BitVec 32 := 256#32
  let c0_i32_17 : BitVec 32 := 0#32
  let v35 : BitVec 1 := Scalar.cmpi .sgt c256_i32_15 c0_i32_17
  let v36 : BitVec 32 := Scalar.extui v35
  let c0_i32_18 : BitVec 32 := 0#32
  let v37 : BitVec 1 := Scalar.cmpi .slt c256_i32_15 c0_i32_18
  let v38 : BitVec 32 := Scalar.extui v37
  let v39 : BitVec 32 := Scalar.subi v36 v38
  let v40 : BitVec 1 := Scalar.cmpi .ne v34 v39
  let v41 : BitVec 32 := Scalar.remsi v28 c256_i32_15
  let c0_i32_19 : BitVec 32 := 0#32
  let v42 : BitVec 1 := Scalar.cmpi .ne v41 c0_i32_19
  let v43 : BitVec 1 := Scalar.andi v40 v42
  let v29 : BitVec 32 := Scalar.divsi v28 c256_i32_15
  let c1_i32 : BitVec 32 := 1#32
  let v44 : BitVec 32 := Scalar.subi v29 c1_i32
  let v45 : BitVec 32 := Scalar.select v43 v44 v29
  let v46 : BitVec 32 := Scalar.subi v45 c0_i32_21
  let c1_i32_22 : BitVec 32 := 1#32
  let v48 : BitVec 32 := Scalar.divsi v46 c1_i32_22
  let v49 : BitVec 32 := Scalar.muli v48 c1_i32_22
  let v50 : BitVec 32 := Scalar.addi c0_i32_21 v49
  let v47 : BitVec 32 := Scalar.addi c0_i32_21 v46
  let c1_i32_24 : BitVec 32 := 1#32
  ⟨v50, v47, c1_i32_24⟩
def k0_mult3 (i : grid0.Coords) (k0_t2 : Fin (k0_t2_loop i).trips) : BitVec 32 :=
  let c0_i32_21 : BitVec 32 := 0#32
  let arg2 : BitVec 32 := BitVec.ofNat 32 (i 2).val
  let c256_i32 : BitVec 32 := 256#32
  let v28 : BitVec 32 := Scalar.muli arg2 c256_i32
  let c0_i32 : BitVec 32 := 0#32
  let v30 : BitVec 1 := Scalar.cmpi .sgt v28 c0_i32
  let v31 : BitVec 32 := Scalar.extui v30
  let c0_i32_16 : BitVec 32 := 0#32
  let v32 : BitVec 1 := Scalar.cmpi .slt v28 c0_i32_16
  let v33 : BitVec 32 := Scalar.extui v32
  let v34 : BitVec 32 := Scalar.subi v31 v33
  let c256_i32_15 : BitVec 32 := 256#32
  let c0_i32_17 : BitVec 32 := 0#32
  let v35 : BitVec 1 := Scalar.cmpi .sgt c256_i32_15 c0_i32_17
  let v36 : BitVec 32 := Scalar.extui v35
  let c0_i32_18 : BitVec 32 := 0#32
  let v37 : BitVec 1 := Scalar.cmpi .slt c256_i32_15 c0_i32_18
  let v38 : BitVec 32 := Scalar.extui v37
  let v39 : BitVec 32 := Scalar.subi v36 v38
  let v40 : BitVec 1 := Scalar.cmpi .ne v34 v39
  let v41 : BitVec 32 := Scalar.remsi v28 c256_i32_15
  let c0_i32_19 : BitVec 32 := 0#32
  let v42 : BitVec 1 := Scalar.cmpi .ne v41 c0_i32_19
  let v43 : BitVec 1 := Scalar.andi v40 v42
  let v29 : BitVec 32 := Scalar.divsi v28 c256_i32_15
  let c1_i32 : BitVec 32 := 1#32
  let v44 : BitVec 32 := Scalar.subi v29 c1_i32
  let v45 : BitVec 32 := Scalar.select v43 v44 v29
  let v46 : BitVec 32 := Scalar.subi v45 c0_i32_21
  let c1_i32_22 : BitVec 32 := 1#32
  let v48 : BitVec 32 := Scalar.divsi v46 c1_i32_22
  let v49 : BitVec 32 := Scalar.muli v48 c1_i32_22
  let v50 : BitVec 32 := Scalar.addi c0_i32_21 v49
  let c1_i32_24 : BitVec 32 := 1#32
  let arg13 : BitVec 32 := Scf.iv v50 c1_i32_24 k0_t2
  let c256_i32_78 : BitVec 32 := 256#32
  let v164 : BitVec 32 := Scalar.muli arg13 c256_i32_78
  v164
def k0_off2 (i : grid0.Coords) (k0_t2 : Fin (k0_t2_loop i).trips) : Fin 2 → Nat :=
  let c0_i32_21 : BitVec 32 := 0#32
  let arg2 : BitVec 32 := BitVec.ofNat 32 (i 2).val
  let c256_i32 : BitVec 32 := 256#32
  let v28 : BitVec 32 := Scalar.muli arg2 c256_i32
  let c0_i32 : BitVec 32 := 0#32
  let v30 : BitVec 1 := Scalar.cmpi .sgt v28 c0_i32
  let v31 : BitVec 32 := Scalar.extui v30
  let c0_i32_16 : BitVec 32 := 0#32
  let v32 : BitVec 1 := Scalar.cmpi .slt v28 c0_i32_16
  let v33 : BitVec 32 := Scalar.extui v32
  let v34 : BitVec 32 := Scalar.subi v31 v33
  let c256_i32_15 : BitVec 32 := 256#32
  let c0_i32_17 : BitVec 32 := 0#32
  let v35 : BitVec 1 := Scalar.cmpi .sgt c256_i32_15 c0_i32_17
  let v36 : BitVec 32 := Scalar.extui v35
  let c0_i32_18 : BitVec 32 := 0#32
  let v37 : BitVec 1 := Scalar.cmpi .slt c256_i32_15 c0_i32_18
  let v38 : BitVec 32 := Scalar.extui v37
  let v39 : BitVec 32 := Scalar.subi v36 v38
  let v40 : BitVec 1 := Scalar.cmpi .ne v34 v39
  let v41 : BitVec 32 := Scalar.remsi v28 c256_i32_15
  let c0_i32_19 : BitVec 32 := 0#32
  let v42 : BitVec 1 := Scalar.cmpi .ne v41 c0_i32_19
  let v43 : BitVec 1 := Scalar.andi v40 v42
  let v29 : BitVec 32 := Scalar.divsi v28 c256_i32_15
  let c1_i32 : BitVec 32 := 1#32
  let v44 : BitVec 32 := Scalar.subi v29 c1_i32
  let v45 : BitVec 32 := Scalar.select v43 v44 v29
  let v46 : BitVec 32 := Scalar.subi v45 c0_i32_21
  let c1_i32_22 : BitVec 32 := 1#32
  let v48 : BitVec 32 := Scalar.divsi v46 c1_i32_22
  let v49 : BitVec 32 := Scalar.muli v48 c1_i32_22
  let v50 : BitVec 32 := Scalar.addi c0_i32_21 v49
  let c1_i32_24 : BitVec 32 := 1#32
  let arg13 : BitVec 32 := Scf.iv v50 c1_i32_24 k0_t2
  let c256_i32_78 : BitVec 32 := 256#32
  let v164 : BitVec 32 := Scalar.muli arg13 c256_i32_78
  let v165 : BitVec 32 := v164
  let v166 : Index := Scalar.indexCast v165
  let c0_79 : Index := 0#32
  ![v166.toNat, 0]
def k0_mult4 (i : grid0.Coords) (k0_t2 : Fin (k0_t2_loop i).trips) : BitVec 32 :=
  let c0_i32_21 : BitVec 32 := 0#32
  let arg2 : BitVec 32 := BitVec.ofNat 32 (i 2).val
  let c256_i32 : BitVec 32 := 256#32
  let v28 : BitVec 32 := Scalar.muli arg2 c256_i32
  let c0_i32 : BitVec 32 := 0#32
  let v30 : BitVec 1 := Scalar.cmpi .sgt v28 c0_i32
  let v31 : BitVec 32 := Scalar.extui v30
  let c0_i32_16 : BitVec 32 := 0#32
  let v32 : BitVec 1 := Scalar.cmpi .slt v28 c0_i32_16
  let v33 : BitVec 32 := Scalar.extui v32
  let v34 : BitVec 32 := Scalar.subi v31 v33
  let c256_i32_15 : BitVec 32 := 256#32
  let c0_i32_17 : BitVec 32 := 0#32
  let v35 : BitVec 1 := Scalar.cmpi .sgt c256_i32_15 c0_i32_17
  let v36 : BitVec 32 := Scalar.extui v35
  let c0_i32_18 : BitVec 32 := 0#32
  let v37 : BitVec 1 := Scalar.cmpi .slt c256_i32_15 c0_i32_18
  let v38 : BitVec 32 := Scalar.extui v37
  let v39 : BitVec 32 := Scalar.subi v36 v38
  let v40 : BitVec 1 := Scalar.cmpi .ne v34 v39
  let v41 : BitVec 32 := Scalar.remsi v28 c256_i32_15
  let c0_i32_19 : BitVec 32 := 0#32
  let v42 : BitVec 1 := Scalar.cmpi .ne v41 c0_i32_19
  let v43 : BitVec 1 := Scalar.andi v40 v42
  let v29 : BitVec 32 := Scalar.divsi v28 c256_i32_15
  let c1_i32 : BitVec 32 := 1#32
  let v44 : BitVec 32 := Scalar.subi v29 c1_i32
  let v45 : BitVec 32 := Scalar.select v43 v44 v29
  let v46 : BitVec 32 := Scalar.subi v45 c0_i32_21
  let c1_i32_22 : BitVec 32 := 1#32
  let v48 : BitVec 32 := Scalar.divsi v46 c1_i32_22
  let v49 : BitVec 32 := Scalar.muli v48 c1_i32_22
  let v50 : BitVec 32 := Scalar.addi c0_i32_21 v49
  let c1_i32_24 : BitVec 32 := 1#32
  let arg13 : BitVec 32 := Scf.iv v50 c1_i32_24 k0_t2
  let c256_i32_80 : BitVec 32 := 256#32
  let v168 : BitVec 32 := Scalar.muli arg13 c256_i32_80
  v168
def k0_mult5 (i : grid0.Coords) : BitVec 32 :=
  let arg2 : BitVec 32 := BitVec.ofNat 32 (i 2).val
  let c256_i32 : BitVec 32 := 256#32
  let v28 : BitVec 32 := Scalar.muli arg2 c256_i32
  let c0_i32 : BitVec 32 := 0#32
  let v30 : BitVec 1 := Scalar.cmpi .sgt v28 c0_i32
  let v31 : BitVec 32 := Scalar.extui v30
  let c0_i32_16 : BitVec 32 := 0#32
  let v32 : BitVec 1 := Scalar.cmpi .slt v28 c0_i32_16
  let v33 : BitVec 32 := Scalar.extui v32
  let v34 : BitVec 32 := Scalar.subi v31 v33
  let c256_i32_15 : BitVec 32 := 256#32
  let c0_i32_17 : BitVec 32 := 0#32
  let v35 : BitVec 1 := Scalar.cmpi .sgt c256_i32_15 c0_i32_17
  let v36 : BitVec 32 := Scalar.extui v35
  let c0_i32_18 : BitVec 32 := 0#32
  let v37 : BitVec 1 := Scalar.cmpi .slt c256_i32_15 c0_i32_18
  let v38 : BitVec 32 := Scalar.extui v37
  let v39 : BitVec 32 := Scalar.subi v36 v38
  let v40 : BitVec 1 := Scalar.cmpi .ne v34 v39
  let v41 : BitVec 32 := Scalar.remsi v28 c256_i32_15
  let c0_i32_19 : BitVec 32 := 0#32
  let v42 : BitVec 1 := Scalar.cmpi .ne v41 c0_i32_19
  let v43 : BitVec 1 := Scalar.andi v40 v42
  let v29 : BitVec 32 := Scalar.divsi v28 c256_i32_15
  let c1_i32 : BitVec 32 := 1#32
  let v44 : BitVec 32 := Scalar.subi v29 c1_i32
  let v45 : BitVec 32 := Scalar.select v43 v44 v29
  let c0_i32_25 : BitVec 32 := 0#32
  let v51 : BitVec 32 := Scalar.addi v45 c0_i32_25
  let c256_i32_26 : BitVec 32 := 256#32
  let v52 : BitVec 32 := Scalar.muli v51 c256_i32_26
  v52
def k0_off3 (i : grid0.Coords) : Fin 2 → Nat :=
  let arg2 : BitVec 32 := BitVec.ofNat 32 (i 2).val
  let c256_i32 : BitVec 32 := 256#32
  let v28 : BitVec 32 := Scalar.muli arg2 c256_i32
  let c0_i32 : BitVec 32 := 0#32
  let v30 : BitVec 1 := Scalar.cmpi .sgt v28 c0_i32
  let v31 : BitVec 32 := Scalar.extui v30
  let c0_i32_16 : BitVec 32 := 0#32
  let v32 : BitVec 1 := Scalar.cmpi .slt v28 c0_i32_16
  let v33 : BitVec 32 := Scalar.extui v32
  let v34 : BitVec 32 := Scalar.subi v31 v33
  let c256_i32_15 : BitVec 32 := 256#32
  let c0_i32_17 : BitVec 32 := 0#32
  let v35 : BitVec 1 := Scalar.cmpi .sgt c256_i32_15 c0_i32_17
  let v36 : BitVec 32 := Scalar.extui v35
  let c0_i32_18 : BitVec 32 := 0#32
  let v37 : BitVec 1 := Scalar.cmpi .slt c256_i32_15 c0_i32_18
  let v38 : BitVec 32 := Scalar.extui v37
  let v39 : BitVec 32 := Scalar.subi v36 v38
  let v40 : BitVec 1 := Scalar.cmpi .ne v34 v39
  let v41 : BitVec 32 := Scalar.remsi v28 c256_i32_15
  let c0_i32_19 : BitVec 32 := 0#32
  let v42 : BitVec 1 := Scalar.cmpi .ne v41 c0_i32_19
  let v43 : BitVec 1 := Scalar.andi v40 v42
  let v29 : BitVec 32 := Scalar.divsi v28 c256_i32_15
  let c1_i32 : BitVec 32 := 1#32
  let v44 : BitVec 32 := Scalar.subi v29 c1_i32
  let v45 : BitVec 32 := Scalar.select v43 v44 v29
  let c0_i32_25 : BitVec 32 := 0#32
  let v51 : BitVec 32 := Scalar.addi v45 c0_i32_25
  let c256_i32_26 : BitVec 32 := 256#32
  let v52 : BitVec 32 := Scalar.muli v51 c256_i32_26
  let v53 : BitVec 32 := v52
  let v54 : Index := Scalar.indexCast v53
  let c0_27 : Index := 0#32
  ![v54.toNat, 0]
def k0_mult6 (i : grid0.Coords) : BitVec 32 :=
  let arg2 : BitVec 32 := BitVec.ofNat 32 (i 2).val
  let c256_i32 : BitVec 32 := 256#32
  let v28 : BitVec 32 := Scalar.muli arg2 c256_i32
  let c0_i32 : BitVec 32 := 0#32
  let v30 : BitVec 1 := Scalar.cmpi .sgt v28 c0_i32
  let v31 : BitVec 32 := Scalar.extui v30
  let c0_i32_16 : BitVec 32 := 0#32
  let v32 : BitVec 1 := Scalar.cmpi .slt v28 c0_i32_16
  let v33 : BitVec 32 := Scalar.extui v32
  let v34 : BitVec 32 := Scalar.subi v31 v33
  let c256_i32_15 : BitVec 32 := 256#32
  let c0_i32_17 : BitVec 32 := 0#32
  let v35 : BitVec 1 := Scalar.cmpi .sgt c256_i32_15 c0_i32_17
  let v36 : BitVec 32 := Scalar.extui v35
  let c0_i32_18 : BitVec 32 := 0#32
  let v37 : BitVec 1 := Scalar.cmpi .slt c256_i32_15 c0_i32_18
  let v38 : BitVec 32 := Scalar.extui v37
  let v39 : BitVec 32 := Scalar.subi v36 v38
  let v40 : BitVec 1 := Scalar.cmpi .ne v34 v39
  let v41 : BitVec 32 := Scalar.remsi v28 c256_i32_15
  let c0_i32_19 : BitVec 32 := 0#32
  let v42 : BitVec 1 := Scalar.cmpi .ne v41 c0_i32_19
  let v43 : BitVec 1 := Scalar.andi v40 v42
  let v29 : BitVec 32 := Scalar.divsi v28 c256_i32_15
  let c1_i32 : BitVec 32 := 1#32
  let v44 : BitVec 32 := Scalar.subi v29 c1_i32
  let v45 : BitVec 32 := Scalar.select v43 v44 v29
  let c0_i32_25 : BitVec 32 := 0#32
  let v51 : BitVec 32 := Scalar.addi v45 c0_i32_25
  let c256_i32_28 : BitVec 32 := 256#32
  let v56 : BitVec 32 := Scalar.muli v51 c256_i32_28
  v56
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S32768x768 : Shape := ⟨2, ![32768, 768]⟩
abbrev S1x64 : Shape := ⟨2, ![1, 64]⟩
abbrev S1x128 : Shape := ⟨2, ![1, 128]⟩
abbrev S4x8192x12x64 : Shape := ⟨4, ![4, 8192, 12, 64]⟩
abbrev S4x8192x6x128 : Shape := ⟨4, ![4, 8192, 6, 128]⟩
abbrev S64 : Shape := ⟨1, ![64]⟩
abbrev S_ : Shape := ⟨0, ![]⟩
abbrev S4x12x8192x8192 : Shape := ⟨4, ![4, 12, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x12x8192 : Shape := ⟨3, ![4, 12, 8192]⟩
abbrev S4x12x8192x1 : Shape := ⟨4, ![4, 12, 8192, 1]⟩
abbrev S4x6x2x8192x8192 : Shape := ⟨5, ![4, 6, 2, 8192, 8192]⟩
abbrev S4x6x1x8192x8192 : Shape := ⟨5, ![4, 6, 1, 8192, 8192]⟩
abbrev S4x6x8192x8192 : Shape := ⟨4, ![4, 6, 8192, 8192]⟩
abbrev S4x6x128x8192 : Shape := ⟨4, ![4, 6, 128, 8192]⟩
abbrev S4x8192x6 : Shape := ⟨3, ![4, 8192, 6]⟩
abbrev S4x8192x6x1 : Shape := ⟨4, ![4, 8192, 6, 1]⟩
abbrev S128 : Shape := ⟨1, ![128]⟩
abbrev S1x1x1x128 : Shape := ⟨4, ![1, 1, 1, 128]⟩

abbrev nBuf : Space → Nat
  | .hbm => 87
  | .vmem => 0
  | .smem => 0
  | _ => 0

abbrev bufTy : (tb : Table) → Fin (tcTables nBuf tb) → BufTy
  | .hbm, ⟨0, _⟩ => ⟨S32768x768, .bf16⟩
  | .hbm, ⟨1, _⟩ => ⟨S32768x768, .bf16⟩
  | .hbm, ⟨2, _⟩ => ⟨S32768x768, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S32768x768, .f32⟩
  | .hbm, ⟨9, _⟩ => ⟨S4x8192x12x64, .f32⟩
  | .hbm, ⟨10, _⟩ => ⟨S32768x768, .f32⟩
  | .hbm, ⟨11, _⟩ => ⟨S4x8192x12x64, .f32⟩
  | .hbm, ⟨12, _⟩ => ⟨S32768x768, .f32⟩
  | .hbm, ⟨13, _⟩ => ⟨S4x8192x6x128, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4x12x8192x8192, .f32⟩
  | .hbm, ⟨30, _⟩ => ⟨S8192, .i32⟩
  | .hbm, ⟨31, _⟩ => ⟨S1x8192, .i32⟩
  | .hbm, ⟨32, _⟩ => ⟨S8192x1, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S_, .f32⟩
  | .hbm, ⟨37, _⟩ => ⟨S_, .f32⟩
  | .hbm, ⟨38, _⟩ => ⟨S4x12x8192x8192, .i1⟩
  | .hbm, ⟨39, _⟩ => ⟨S4x12x8192x8192, .f32⟩
  | .hbm, ⟨40, _⟩ => ⟨S4x12x8192x8192, .f32⟩
  | .hbm, ⟨41, _⟩ => ⟨S_, .f32⟩
  | .hbm, ⟨42, _⟩ => ⟨S4x12x8192, .f32⟩
  | .hbm, ⟨43, _⟩ => ⟨S_, .f32⟩
  | .hbm, ⟨44, _⟩ => ⟨S4x12x8192, .f32⟩
  | .hbm, ⟨45, _⟩ => ⟨S4x12x8192, .f32⟩
  | .hbm, ⟨46, _⟩ => ⟨S4x12x8192x1, .f32⟩
  | .hbm, ⟨47, _⟩ => ⟨S4x12x8192x8192, .f32⟩
  | .hbm, ⟨48, _⟩ => ⟨S4x12x8192x8192, .f32⟩
  | .hbm, ⟨49, _⟩ => ⟨S4x12x8192x8192, .f32⟩
  | .hbm, ⟨50, _⟩ => ⟨S_, .f32⟩
  | .hbm, ⟨51, _⟩ => ⟨S4x12x8192, .f32⟩
  | .hbm, ⟨52, _⟩ => ⟨S4x12x8192x1, .f32⟩
  | .hbm, ⟨53, _⟩ => ⟨S4x12x8192x8192, .f32⟩
  | .hbm, ⟨54, _⟩ => ⟨S4x12x8192x8192, .f32⟩
  | .hbm, ⟨55, _⟩ => ⟨S4x6x2x8192x8192, .f32⟩
  | .hbm, ⟨56, _⟩ => ⟨S4x6x1x8192x8192, .f32⟩
  | .hbm, ⟨57, _⟩ => ⟨S4x6x8192x8192, .f32⟩
  | .hbm, ⟨58, _⟩ => ⟨S4x6x1x8192x8192, .f32⟩
  | .hbm, ⟨59, _⟩ => ⟨S4x6x8192x8192, .f32⟩
  | .hbm, ⟨60, _⟩ => ⟨S4x6x8192x8192, .f32⟩
  | .hbm, ⟨61, _⟩ => ⟨S4x6x8192x8192, .f32⟩
  | .hbm, ⟨62, _⟩ => ⟨S4x6x8192x8192, .f32⟩
  | .hbm, ⟨63, _⟩ => ⟨S4x6x128x8192, .f32⟩
  | .hbm, ⟨64, _⟩ => ⟨S4x8192x6x128, .f32⟩
  | .hbm, ⟨65, _⟩ => ⟨S4x8192x6x128, .f32⟩
  | .hbm, ⟨66, _⟩ => ⟨S_, .f32⟩
  | .hbm, ⟨67, _⟩ => ⟨S4x8192x6, .f32⟩
  | .hbm, ⟨68, _⟩ => ⟨S4x8192x6x1, .f32⟩
  | .hbm, ⟨69, _⟩ => ⟨S_, .f32⟩
  | .hbm, ⟨70, _⟩ => ⟨S4x8192x6x1, .f32⟩
  | .hbm, ⟨71, _⟩ => ⟨S4x8192x6x1, .f32⟩
  | .hbm, ⟨72, _⟩ => ⟨S_, .f32⟩
  | .hbm, ⟨73, _⟩ => ⟨S4x8192x6x1, .f32⟩
  | .hbm, ⟨74, _⟩ => ⟨S4x8192x6x1, .f32⟩
  | .hbm, ⟨75, _⟩ => ⟨S4x8192x6x1, .f32⟩
  | .hbm, ⟨76, _⟩ => ⟨S4x8192x6x128, .f32⟩
  | .hbm, ⟨77, _⟩ => ⟨S4x8192x6x128, .f32⟩
  | .hbm, ⟨78, _⟩ => ⟨S128, .f32⟩
  | .hbm, ⟨79, _⟩ => ⟨S1x1x1x128, .f32⟩
  | .hbm, ⟨80, _⟩ => ⟨S4x8192x6x128, .f32⟩
  | .hbm, ⟨81, _⟩ => ⟨S4x8192x6x128, .f32⟩
  | .hbm, ⟨82, _⟩ => ⟨S_, .f32⟩
  | .hbm, ⟨83, _⟩ => ⟨S4x8192x6x128, .f32⟩
  | .hbm, ⟨84, _⟩ => ⟨S4x8192x6x128, .f32⟩
  | .hbm, ⟨85, _⟩ => ⟨S32768x768, .f32⟩
  | .hbm, ⟨86, _⟩ => ⟨S32768x768, .bf16⟩
  | _, _ => ⟨S32768x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_9 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== Kernel2.lean ====
abbrev S32768x1024 : Shape := ⟨2, ![32768, 1024]⟩
abbrev S2x1024 : Shape := ⟨2, ![2, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 15
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S2816x1024, .f32⟩
  | .hbm, ⟨13, _⟩ => ⟨S2816x1024, .bf16⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v26 : BitVec 1 := Scalar.cmpi .eq arg1 c1_i32
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S32768x1024 : Shape := ⟨2, ![32768, 1024]⟩
abbrev S2x1024 : Shape := ⟨2, ![2, 1024]⟩
abbrev S1x1024x2816 : Shape := ⟨3, ![1, 1024, 2816]⟩
abbrev S1x2816x1024 : Shape := ⟨3, ![1, 2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024 : Shape := ⟨1, ![1024]⟩
abbrev S1024x2816 : Shape := ⟨2, ![1024, 2816]⟩
abbrev S32768x2816 : Shape := ⟨2, ![32768, 2816]⟩
abbrev S2816x1024 : Shape := ⟨2, ![2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S1024x2816, .f32⟩
  | .hbm, ⟨24, _⟩ => ⟨S32768x2816, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x2816, .f32⟩
  | .hbm, ⟨29, _⟩ => ⟨S32768x2816, .f32⟩
  | .hbm, ⟨30, _⟩ => ⟨S_, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S1024x2816, .f32⟩
  | .hbm, ⟨35, _⟩ => ⟨S32768x2816, .f32⟩
  | .hbm, ⟨36, _⟩ => ⟨S32768x2816, .f32⟩
  | .hbm, ⟨37, _⟩ => ⟨S2816x1024, .f32⟩
  | .hbm, ⟨38, _⟩ => ⟨S32768x1024, .f32⟩
  | .hbm, ⟨39, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Kernel3.lean ====
abbrev S72 : Shape := ⟨1, ![72]⟩
abbrev S1 : Shape := ⟨1, ![1]⟩
abbrev S73728x1024 : Shape := ⟨2, ![73728, 1024]⟩
abbrev S1x8x1024x3584 : Shape := ⟨4, ![1, 8, 1024, 3584]⟩
abbrev S1x8x3584x1024 : Shape := ⟨4, ![1, 8, 3584, 1024]⟩
abbrev S8x1024x3584 : Shape := ⟨3, ![8, 1024, 3584]⟩
abbrev S8x3584x1024 : Shape := ⟨3, ![8, 3584, 1024]⟩
abbrev S_ : Shape := ⟨0, ![]⟩
abbrev S72x1 : Shape := ⟨2, ![72, 1]⟩
abbrev S1024x1024 : Shape := ⟨2, ![1024, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 26
  | .vmem => 12
  | .smem => 2
  | _ => 0

abbrev bufTy : (tb : Table) → Fin (tcTables nBuf tb) → BufTy
  | .hbm, ⟨0, _⟩ => ⟨S72, .i32⟩
  | .hbm, ⟨1, _⟩ => ⟨S73728x1024, .f32⟩
  | .hbm, ⟨2, _⟩ => ⟨S1x8x1024x3584, .f32⟩
  | .hbm, ⟨3, _⟩ => ⟨S1x8x1024x3584, .f32⟩
  | .hbm, ⟨4, _⟩ => ⟨S1x8x3584x1024, .f32⟩
  | .hbm, ⟨5, _⟩ => ⟨S8x1024x3584, .f32⟩
  | .hbm, ⟨6, _⟩ => ⟨S8x1024x3584, .bf16⟩
  | .hbm, ⟨7, _⟩ => ⟨S8x1024x3584, .f32⟩
  | .hbm, ⟨8, _⟩ => ⟨S8x1024x3584, .bf16⟩
  | .hbm, ⟨9, _⟩ => ⟨S8x3584x1024, .f32⟩
  | .hbm, ⟨10, _⟩ => ⟨S8x3584x1024, .bf16⟩
  | .hbm, ⟨11, _⟩ => ⟨S72, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S72, .i32⟩
  | .hbm, ⟨16, _⟩ => ⟨S72, .i32⟩
  | .hbm, ⟨17, _⟩ => ⟨S_, .i32⟩
  | .hbm, ⟨18, _⟩ => ⟨S72, .i32⟩
  | .hbm, ⟨19, _⟩ => ⟨S72, .i1⟩
  | .hbm, ⟨20, _⟩ => ⟨S_, .i32⟩
  | .hbm, ⟨21, _⟩ => ⟨S72, .i32⟩
  | .hbm, ⟨22, _⟩ => ⟨S72, .i32⟩
  | .hbm, ⟨23, _⟩ => ⟨S72, .i32⟩
  | .hbm, ⟨24, _⟩ => ⟨S72x1, .i32⟩
  | .hbm, ⟨25, _⟩ => ⟨S73728x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | .local _ .smem, ⟨0, _⟩ => ⟨S72, .i32⟩
  | .local _ .smem, ⟨1, _⟩ => ⟨S1, .i32⟩
  | _, _ => ⟨S72, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v18 : Ref sig .tc := ⟨.hbm, 25, rfl⟩
abbrev main_v17 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 7], ![false, false]⟩

abbrev pre0 : Pipeline.Prefetch sig := ⟨2, ![main_v17.idx, main_arg1.idx], fun | 0 => main_v17.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c6_i32 : BitVec 32 := 6#32
  let v36 : BitVec 1 := Scalar.cmpi .eq arg1 c6_i32
  let v37 : BitVec 32 := Scalar.extui v36
  let c0_i32_24 : BitVec 32 := 0#32
  let v38 : BitVec 1 := Scalar.cmpi .ne v37 c0_i32_24
  v38

def k0_cond4 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S72 : Shape := ⟨1, ![72]⟩
abbrev S1 : Shape := ⟨1, ![1]⟩
abbrev S73728x1024 : Shape := ⟨2, ![73728, 1024]⟩
abbrev S1x8x1024x3584 : Shape := ⟨4, ![1, 8, 1024, 3584]⟩
abbrev S1x8x3584x1024 : Shape := ⟨4, ![1, 8, 3584, 1024]⟩
abbrev S72x1024x1024 : Shape := ⟨3, ![72, 1024, 1024]⟩
abbrev S8x1024x3584 : Shape := ⟨3, ![8, 1024, 3584]⟩
abbrev S_ : Shape := ⟨0, ![]⟩
abbrev S72x1 : Shape := ⟨2, ![72, 1]⟩
abbrev S72x1024x3584 : Shape := ⟨3, ![72, 1024, 3584]⟩
abbrev S8x3584x1024 : Shape := ⟨3, ![8, 3584, 1024]⟩
abbrev S72x3584x1024 : Shape := ⟨3, ![72, 3584, 1024]⟩
abbrev S72x1x1 : Shape := ⟨3, ![72, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S72, .i32⟩
  | .hbm, ⟨1, _⟩ => ⟨S1, .i32⟩
  | .hbm, ⟨2, _⟩ => ⟨S73728x1024, .f32⟩
  | .hbm, ⟨3, _⟩ => ⟨S1x8x1024x3584, .f32⟩
  | .hbm, ⟨4, _⟩ => ⟨S1x8x1024x3584, .f32⟩
  | .hbm, ⟨5, _⟩ => ⟨S1x8x3584x1024, .f32⟩
  | .hbm, ⟨6, _⟩ => ⟨S72x1024x1024, .f32⟩
  | .hbm, ⟨7, _⟩ => ⟨S8x1024x3584, .f32⟩
  | .hbm, ⟨8, _⟩ => ⟨S_, .i32⟩
  | .hbm, ⟨9, _⟩ => ⟨S72, .i32⟩
  | .hbm, ⟨10, _⟩ => ⟨S72, .i1⟩
  | .hbm, ⟨11, _⟩ => ⟨S_, .i32⟩
  | .hbm, ⟨12, _⟩ => ⟨S72, .i32⟩
  | .hbm, ⟨13, _⟩ => ⟨S72, .i32⟩
  | .hbm, ⟨14, _⟩ => ⟨S72, .i32⟩
  | .hbm, ⟨15, _⟩ => ⟨S72x1, .i32⟩
  | .hbm, ⟨16, _⟩ => ⟨S72x1024x3584, .f32⟩
  | .hbm, ⟨17, _⟩ => ⟨S72x1024x3584, .f32⟩
  | .hbm, ⟨18, _⟩ => ⟨S8x1024x3584, .f32⟩
  | .hbm, ⟨19, _⟩ => ⟨S_, .i32⟩
  | .hbm, ⟨20, _⟩ => ⟨S72, .i32⟩
  | .hbm, ⟨21, _⟩ => ⟨S72, .i1⟩
  | .hbm, ⟨22, _⟩ => ⟨S_, .i32⟩
  | .hbm, ⟨23, _⟩ => ⟨S72, .i32⟩
  | .hbm, ⟨24, _⟩ => ⟨S72, .i32⟩
  | .hbm, ⟨25, _⟩ => ⟨S72, .i32⟩
  | .hbm, ⟨26, _⟩ => ⟨S72x1, .i32⟩
  | .hbm, ⟨27, _⟩ => ⟨S72x1024x3584, .f32⟩
  | .hbm, ⟨28, _⟩ => ⟨S72x1024x3584, .f32⟩
  | .hbm, ⟨29, _⟩ => ⟨S72x1024x3584, .f32⟩
  | .hbm, ⟨30, _⟩ => ⟨S72x1024x3584, .f32⟩
  | .hbm, ⟨31, _⟩ => ⟨S_, .f32⟩
  | .hbm, ⟨32, _⟩ => ⟨S72x1024x3584, .f32⟩
  | .hbm, ⟨33, _⟩ => ⟨S72x1024x3584, .f32⟩
  | .hbm, ⟨34, _⟩ => ⟨S_, .f32⟩
  | .hbm, ⟨35, _⟩ => ⟨S72x1024x3584, .f32⟩
  | .hbm, ⟨36, _⟩ => ⟨S72x1024x3584, .f32⟩
  | .hbm, ⟨37, _⟩ => ⟨S72x1024x3584, .f32⟩
  | .hbm, ⟨38, _⟩ => ⟨S72x1024x3584, .f32⟩
  | .hbm, ⟨39, _⟩ => ⟨S8x3584x1024, .f32⟩
  | .hbm, ⟨40, _⟩ => ⟨S_, .i32⟩
  | .hbm, ⟨41, _⟩ => ⟨S72, .i32⟩
  | .hbm, ⟨42, _⟩ => ⟨S72, .i1⟩
  | .hbm, ⟨43, _⟩ => ⟨S_, .i32⟩
  | .hbm, ⟨44, _⟩ => ⟨S72, .i32⟩
  | .hbm, ⟨45, _⟩ => ⟨S72, .i32⟩
  | .hbm, ⟨46, _⟩ => ⟨S72, .i32⟩
  | .hbm, ⟨47, _⟩ => ⟨S72x1, .i32⟩
  | .hbm, ⟨48, _⟩ => ⟨S72x3584x1024, .f32⟩
  | .hbm, ⟨49, _⟩ => ⟨S72x1024x1024, .f32⟩
  | .hbm, ⟨50, _⟩ => ⟨S72, .i32⟩
  | .hbm, ⟨51, _⟩ => ⟨S_, .i32⟩
  | .hbm, ⟨52, _⟩ => ⟨S72, .i32⟩
  | .hbm, ⟨53, _⟩ => ⟨S72, .i1⟩
  | .hbm, ⟨54, _⟩ => ⟨S72x1x1, .i1⟩
  | .hbm, ⟨55, _⟩ => ⟨S_, .f32⟩
  | .hbm, ⟨56, _⟩ => ⟨S_, .f32⟩
  | .hbm, ⟨57, _⟩ => ⟨S72x1024x1024, .i1⟩
  | .hbm, ⟨58, _⟩ => ⟨S72x1024x1024, .f32⟩
  | .hbm, ⟨59, _⟩ => ⟨S72x1024x1024, .f32⟩
  | .hbm, ⟨60, _⟩ => ⟨S73728x1024, .f32⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]
-- ==== Kernel4.lean ====
abbrev S32768x1024 : Shape := ⟨2, ![32768, 1024]⟩
abbrev S32768x768 : Shape := ⟨2, ![32768, 768]⟩
abbrev S32768x256 : Shape := ⟨2, ![32768, 256]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S768x1024 : Shape := ⟨2, ![768, 1024]⟩
abbrev S256x1024 : Shape := ⟨2, ![256, 1024]⟩
abbrev S512x1024 : Shape := ⟨2, ![512, 1024]⟩
abbrev S512x768 : Shape := ⟨2, ![512, 768]⟩
abbrev S512x256 : Shape := ⟨2, ![512, 256]⟩

abbrev nBuf : Space → Nat
  | .hbm => 13
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x768, .bf16⟩
  | .hbm, ⟨2, _⟩ => ⟨S32768x256, .bf16⟩
  | .hbm, ⟨3, _⟩ => ⟨S2x1024x1024, .f32⟩
  | .hbm, ⟨4, _⟩ => ⟨S1x1024x1024, .f32⟩
  | .hbm, ⟨5, _⟩ => ⟨S1024x1024, .f32⟩
  | .hbm, ⟨6, _⟩ => ⟨S768x1024, .f32⟩
  | .hbm, ⟨7, _⟩ => ⟨S768x1024, .bf16⟩
  | .hbm, ⟨8, _⟩ => ⟨S1x1024x1024, .f32⟩
  | .hbm, ⟨9, _⟩ => ⟨S1024x1024, .f32⟩
  | .hbm, ⟨10, _⟩ => ⟨S256x1024, .f32⟩
  | .hbm, ⟨11, _⟩ => ⟨S256x1024, .bf16⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x768, .bf16⟩
  | .local _ .vmem, ⟨3, _⟩ => ⟨S512x768, .bf16⟩
  | .local _ .vmem, ⟨4, _⟩ => ⟨S512x256, .bf16⟩
  | .local _ .vmem, ⟨5, _⟩ => ⟨S512x256, .bf16⟩
  | .local _ .vmem, ⟨6, _⟩ => ⟨S768x1024, .bf16⟩
  | .local _ .vmem, ⟨7, _⟩ => ⟨S256x1024, .bf16⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S32768x1024 : Shape := ⟨2, ![32768, 1024]⟩
abbrev S32768x768 : Shape := ⟨2, ![32768, 768]⟩
abbrev S32768x256 : Shape := ⟨2, ![32768, 256]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x768, .bf16⟩
  | .hbm, ⟨2, _⟩ => ⟨S32768x256, .bf16⟩
  | .hbm, ⟨3, _⟩ => ⟨S2x1024x1024, .f32⟩
  | .hbm, ⟨4, _⟩ => ⟨S32768x768, .f32⟩
  | .hbm, ⟨5, _⟩ => ⟨S32768x256, .f32⟩
  | .hbm, ⟨6, _⟩ => ⟨S32768x1024, .f32⟩
  | .hbm, ⟨7, _⟩ => ⟨S1x1024x1024, .f32⟩
  | .hbm, ⟨8, _⟩ => ⟨S1024x1024, .f32⟩
  | .hbm, ⟨9, _⟩ => ⟨S32768x1024, .f32⟩
  | .hbm, ⟨10, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel5.lean ====
abbrev S32768x1024 : Shape := ⟨2, ![32768, 1024]⟩
abbrev S32768x256 : Shape := ⟨2, ![32768, 256]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S768x1024 : Shape := ⟨2, ![768, 1024]⟩
abbrev S4x192x1024 : Shape := ⟨3, ![4, 192, 1024]⟩
abbrev S_ : Shape := ⟨0, ![]⟩
abbrev S4x256x1024 : Shape := ⟨3, ![4, 256, 1024]⟩
abbrev S256x1024 : Shape := ⟨2, ![256, 1024]⟩
abbrev S512x1024 : Shape := ⟨2, ![512, 1024]⟩
abbrev S512x256 : Shape := ⟨2, ![512, 256]⟩

abbrev nBuf : Space → Nat
  | .hbm => 18
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x256, .bf16⟩
  | .hbm, ⟨3, _⟩ => ⟨S2x1024x1024, .f32⟩
  | .hbm, ⟨4, _⟩ => ⟨S1x1024x1024, .f32⟩
  | .hbm, ⟨5, _⟩ => ⟨S1024x1024, .f32⟩
  | .hbm, ⟨6, _⟩ => ⟨S768x1024, .f32⟩
  | .hbm, ⟨7, _⟩ => ⟨S4x192x1024, .f32⟩
  | .hbm, ⟨8, _⟩ => ⟨S_, .i32⟩
  | .hbm, ⟨9, _⟩ => ⟨S_, .f32⟩
  | .hbm, ⟨10, _⟩ => ⟨S4x256x1024, .f32⟩
  | .hbm, ⟨11, _⟩ => ⟨S1024x1024, .f32⟩
  | .hbm, ⟨12, _⟩ => ⟨S1024x1024, .bf16⟩
  | .hbm, ⟨13, _⟩ => ⟨S1x1024x1024, .f32⟩
  | .hbm, ⟨14, _⟩ => ⟨S1024x1024, .f32⟩
  | .hbm, ⟨15, _⟩ => ⟨S256x1024, .f32⟩
  | .hbm, ⟨16, _⟩ => ⟨S256x1024, .bf16⟩
  | .hbm, ⟨17, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .bf16⟩
  | .local _ .vmem, ⟨5, _⟩ => ⟨S512x256, .bf16⟩
  | .local _ .vmem, ⟨6, _⟩ => ⟨S1024x1024, .bf16⟩
  | .local _ .vmem, ⟨7, _⟩ => ⟨S256x1024, .bf16⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S32768x1024 : Shape := ⟨2, ![32768, 1024]⟩
abbrev S32768x256 : Shape := ⟨2, ![32768, 256]⟩
abbrev S2x1024x1024 : Shape := ⟨3, ![2, 1024, 1024]⟩
abbrev S32768x4x256 : Shape := ⟨3, ![32768, 4, 256]⟩
abbrev S32768x4x192 : Shape := ⟨3, ![32768, 4, 192]⟩
abbrev S32768x768 : Shape := ⟨2, ![32768, 768]⟩
abbrev S1x1024x1024 : Shape := ⟨3, ![1, 1024, 1024]⟩
abbrev S1024x1024 : Shape := ⟨2, ![1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x256, .bf16⟩
  | .hbm, ⟨3, _⟩ => ⟨S2x1024x1024, .f32⟩
  | .hbm, ⟨4, _⟩ => ⟨S32768x1024, .f32⟩
  | .hbm, ⟨5, _⟩ => ⟨S32768x4x256, .f32⟩
  | .hbm, ⟨6, _⟩ => ⟨S32768x4x192, .f32⟩
  | .hbm, ⟨7, _⟩ => ⟨S32768x768, .f32⟩
  | .hbm, ⟨8, _⟩ => ⟨S32768x256, .f32⟩
  | .hbm, ⟨9, _⟩ => ⟨S32768x1024, .f32⟩
  | .hbm, ⟨10, _⟩ => ⟨S1x1024x1024, .f32⟩
  | .hbm, ⟨11, _⟩ => ⟨S1024x1024, .f32⟩
  | .hbm, ⟨12, _⟩ => ⟨S32768x1024, .f32⟩
  | .hbm, ⟨13, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.FfnRef.lean ====
module

public import proofs.«01_k».proof.Proof.Gen.Reference2Ideal
public import Idealize.ShloMosaic.Lib.Pointwise

@[expose] public section

set_option maxRecDepth 16384

noncomputable section

namespace Cert.Reference2Ideal.Ffn

open Cert.Reference2Ideal Cert.Reference2Ideal.Gen Idealize.ShloMosaic Idealize.ShloMosaic.TcCoe Idealize.SL.Sem

/-- The reference's normalised activations: the root-mean-square norm of the rows of `X`, times the first gain row. -/
def refH (X : FVec Ideal S32768x1024 .f32) (G : FVec Ideal S2x1024 .f32) : FVec Ideal S32768x1024 .f32 :=
  (mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ (extractStridedSlice S1x1024 ![0, 0] G slices_S2x1024_S1x1024_0_0) shapeCasts_S1x1024_S1024))))

/-- The reference's product of the normalised activations with one of the two up-projections. -/
def refDot (H : FVec Ideal S32768x1024 .f32) (W : FVec Ideal S1x1024x2816 .f32) : FVec Ideal S32768x2816 .f32 :=
  (Host.dotGeneral dot_S32768x1024_S1024x2816_S32768x2816_1_0_0_1_n_n none H (shapeCast _ W shapeCasts_S1x1024x2816_S1024x2816))

/-- The reference's result from its arguments. -/
def REF (X : FVec Ideal S32768x1024 .f32) (G : FVec Ideal S2x1024 .f32) (Wg Wu : FVec Ideal S1x1024x2816 .f32)
    (Wd : FVec Ideal S1x2816x1024 .f32) : FVec Ideal S32768x1024 .f32 :=
  addf X (Host.dotGeneral dot_S32768x2816_S2816x1024_S32768x1024_1_0_0_1_n_n none (mulf (mulf (refDot (refH X G) Wg) (Host.divf (broadcastInDim S32768x2816 ![] bcast_S_S32768x2816 (constant S_ .f32 0x3F800000#32)) (addf (broadcastInDim S32768x2816 ![] bcast_S_S32768x2816 (constant S_ .f32 0x3F800000#32)) (Host.exp (Host.negf (refDot (refH X G) Wg)))))) (refDot (refH X G) Wu)) (shapeCast _ Wd shapeCasts_S1x2816x1024_S2816x1024))

/-- One element of a normalised row. -/
theorem refH_at (X : FVec Ideal S32768x1024 .f32) (G : FVec Ideal S2x1024 .f32) (r : Fin 32768) (k : Fin 1024) :
    refH X G (ix2 r k) = X (ix2 r k) * Ideal.rsqrt (Ideal.div (∑ l : Fin 1024, X (ix2 r l) * X (ix2 r l)) (Ideal.ofBits .f32 0x44800000#32) + Ideal.ofBits .f32 0x358637BD#32) * G (ix2 0 k) := by
  pointwise [refH]

/-- One element of an up-projection. -/
theorem refDot_at (H : FVec Ideal S32768x1024 .f32) (W : FVec Ideal S1x1024x2816 .f32) (r : Fin 32768) (f : Fin 2816) :
    refDot H W (ix2 r f) = ∑ k : Fin 1024, H (ix2 r k) * W (ix3 0 k f) := by
  pointwise [refDot]

/-- What hidden unit `f` adds to element `n` of row `r`. -/
def unitTerm (X : FVec Ideal S32768x1024 .f32) (G : FVec Ideal S2x1024 .f32) (Wg Wu : FVec Ideal S1x1024x2816 .f32)
    (Wd : FVec Ideal S1x2816x1024 .f32) (r : Fin 32768) (n : Fin 1024) (f : Fin 2816) : EReal :=
  refDot (refH X G) Wg (ix2 r f) * Ideal.div 1 (1 + Ideal.exp (-(refDot (refH X G) Wg (ix2 r f)))) * refDot (refH X G) Wu (ix2 r f) * Wd (ix3 0 f n)

/-- One element of the reference's result. -/
theorem REF_at (X : FVec Ideal S32768x1024 .f32) (G : FVec Ideal S2x1024 .f32) (Wg Wu : FVec Ideal S1x1024x2816 .f32)
    (Wd : FVec Ideal S1x2816x1024 .f32) (r : Fin 32768) (n : Fin 1024) :
    REF X G Wg Wu Wd (ix2 r n) = X (ix2 r n) + ∑ f : Fin 2816, unitTerm X G Wg Wu Wd r n f := by
  pointwise [REF, unitTerm]

end Cert.Reference2Ideal.Ffn

end
-- ==== Proof.FfnValue.lean ====
module

public import proofs.«01_k».proof.Proof.FfnRef
public import proofs.«01_k».proof.Proof.Gen.Kernel2Ideal.Frame
public import Idealize.ShloMosaic.Lib.Pipeline.ValueKit
public import Idealize.ShloMosaic.Lib.Pipeline.ReadBack

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)
open Cert.Reference2Ideal.Ffn (refH refDot REF unitTerm refH_at refDot_at REF_at)

/-- The exponential is nowhere negative. -/
theorem exp_nonneg (x : EReal) : 0 ≤ Ideal.exp x := by
  induction x with
  | bot => exact le_rfl
  | top => exact le_top
  | coe r => exact EReal.coe_nonneg.2 (Real.exp_pos r).le

/-- The kernel's quotient form of silu is the reference's product form. -/
theorem silu_eq (a : EReal) : Ideal.div a (1 + Ideal.exp (0 - a)) = a * Ideal.div 1 (1 + Ideal.exp (-a)) := by
  have h : (1 : EReal) + Ideal.exp (-a) ≠ 0 := by
    have h1 : (1 : EReal) ≤ 1 + Ideal.exp (-a) := by
      simpa using add_le_add_right (exp_nonneg (-a)) (1 : EReal)
    intro h0
    rw [h0] at h1
    exact absurd h1 (by norm_num)
  rw [zero_sub, Ideal.div, Ideal.div, if_neg h, if_neg h, one_mul]

/-- The kernel's normalised activations of one block of rows, at an element. -/
theorem pay1_at (x : FVec Ideal S512x1024 .f32) (g : FVec Ideal S1x1024 .f32) (r : Fin 512) (k : Fin 1024) :
    k0_pay1 (F := Ideal) x g (ix2 r k) = (x (ix2 r k) : EReal) * Ideal.rsqrt (Ideal.div (∑ l : Fin 1024, x (ix2 r l) * x (ix2 r l)) (Ideal.ofBits .f32 0x44800000#32) + Ideal.ofBits .f32 0x358637BD#32) * g (ix2 0 k) := by
  pointwise [k0_pay1]

/-- The accumulator starts at zero. -/
theorem pay2_at (j : S512x1024.Idx) : k0_pay2 (F := Ideal) j = 0 := by
  pointwise [k0_pay2]

/-- One tile's contribution to the accumulator, at an element. -/
theorem pay3_at (h : FVec Ideal S512x1024 .bf16) (wg wu : FVec Ideal S1024x1408 .bf16) (acc : FVec Ideal S512x1024 .f32)
    (wd : FVec Ideal S1408x1024 .bf16) (r : Fin 512) (n : Fin 1024) :
    k0_pay3 h wg wu acc wd (ix2 r n) = acc (ix2 r n) + ∑ f : Fin 1408,
      (∑ k : Fin 1024, h (ix2 r k) * wg (ix2 k f)) * Ideal.div 1 (1 + Ideal.exp (-(∑ k : Fin 1024, h (ix2 r k) * wg (ix2 k f))))
        * (∑ k : Fin 1024, h (ix2 r k) * wu (ix2 k f)) * wd (ix2 f n) := by
  pointwise [k0_pay3]
  all_goals simp only [silu_eq]

/-- The block's result is its rows plus the accumulator. -/
theorem pay4_at (x y : FVec Ideal S512x1024 .f32) (j : S512x1024.Idx) : k0_pay4 x y j = x j + y j := by
  pointwise [k0_pay4]

variable (m : (ℓ : Loc nD τ sig) → Buf (Elt Ideal) ℓ)

/-- Where each window's block lies at each point. -/
theorem idx : ∀ t : Fin cfg0.N, win0_0.index t = ![t.val / 2, 0] ∧ win0_1.index t = ![0, 0] ∧ win0_2.index t = ![0, t.val % 2]
    ∧ win0_3.index t = ![0, t.val % 2] ∧ win0_4.index t = ![t.val % 2, 0] ∧ win0_5.index t = ![t.val / 2, 0] :=
  (by decide +kernel : ∀ t : Fin grid0.N, _)

/-- After the first point of a pair: the normalised rows, and the first tile's contribution. -/
theorem first_point (c : Dev nD) (t : Fin cfg0.N) (h : t.val % 2 = 0) :
    (outsAt0 m c t.val t.isLt).2.1 = k0_pay1 (iblk m c 0 t) (iblk m c 1 t)
    ∧ (outsAt0 m c t.val t.isLt).2.2 = k0_pay3 (k0_pay1 (iblk m c 0 t) (iblk m c 1 t)) (iblk m c 2 t) (iblk m c 3 t) (k0_pay2 (F := Ideal)) (iblk m c 4 t) := by
  rw [outsAt0_A m c t h (by omega)]
  constructor
  · frame_out
  · frame_out

/-- The second point of a pair writes the rows plus both contributions. -/
theorem second_point (c : Dev nD) (t : Fin cfg0.N) (h : t.val % 2 = 1) (hp : t.val - 1 < cfg0.N) :
    (outsAt0 m c t.val t.isLt).1 = k0_pay4 (iblk m c 0 t) (k0_pay3 (outsAt0 m c (t.val - 1) hp).2.1 (iblk m c 2 t) (iblk m c 3 t) (outsAt0 m c (t.val - 1) hp).2.2 (iblk m c 4 t)) := by
  rw [outsAt0_B m c t (by omega) h]
  frame_out
  rw [read_unread_whole, read_unread_whole]

/-- The gain row the region finds, at an element. -/
theorem V_g (c : Dev nD) (k : Fin 1024) : V m c main_v2 (ix2 0 k) = m ((c : Thread nD τ).loc main_arg1) (ix2 0 k) := by
  entry_read
  pointwise

/-- The gate weight the region finds, at an element. -/
theorem V_wg (c : Dev nD) (k : Fin 1024) (f : Fin 2816) : V m c main_v4 (ix2 k f) = m ((c : Thread nD τ).loc main_arg2) (ix3 0 k f) := by
  entry_read
  pointwise

/-- The up weight the region finds, at an element. -/
theorem V_wu (c : Dev nD) (k : Fin 1024) (f : Fin 2816) : V m c main_v6 (ix2 k f) = m ((c : Thread nD τ).loc main_arg3) (ix3 0 k f) := by
  entry_read
  pointwise

/-- The down weight the region finds, at an element. -/
theorem V_wd (c : Dev nD) (f : Fin 2816) (n : Fin 1024) : V m c main_v8 (ix2 f n) = m ((c : Thread nD τ).loc main_arg4) (ix3 0 f n) := by
  entry_read
  pointwise

/-- A row of block `t` of the activations, in the array. -/
abbrev rowOf (t : Fin cfg0.N) (r : Fin 512) : Fin 32768 := ⟨t.val / 2 * 512 + r.val, by
  have h := lt_of_lt_of_eq t.isLt (show cfg0.N = 128 from N_0); omega⟩

/-- A hidden unit of tile `s`, in the weights. -/
abbrev unitOf (s : Fin 2) (f : Fin 1408) : Fin 2816 := ⟨s.val * 1408 + f.val, by omega⟩

/-- The tile a point works on. -/
abbrev tileOf (t : Fin cfg0.N) : Fin 2 := ⟨t.val % 2, Nat.mod_lt _ (by decide)⟩

/-- The activations' block at a point. -/
theorem blk_x (c : Dev nD) (t : Fin cfg0.N) (r : Fin 512) (k : Fin 1024) :
    iblk m c 0 t (ix2 r k) = m ((c : Thread nD τ).loc main_arg0) (ix2 (rowOf t r) k) := by
  blk_ext [iblk, V, idx t]

/-- The gain's block at a point. -/
theorem blk_g (c : Dev nD) (t : Fin cfg0.N) (k : Fin 1024) :
    iblk m c 1 t (ix2 0 k) = m ((c : Thread nD τ).loc main_arg1) (ix2 0 k) := by
  rw [← V_g m c k]
  blk_ext [iblk, idx t]

/-- The gate weight's block at a point. -/
theorem blk_wg (c : Dev nD) (t : Fin cfg0.N) (k : Fin 1024) (f : Fin 1408) :
    iblk m c 2 t (ix2 k f) = m ((c : Thread nD τ).loc main_arg2) (ix3 0 k (unitOf (tileOf t) f)) := by
  rw [← V_wg m c k]
  blk_ext [iblk, idx t]

/-- The up weight's block at a point. -/
theorem blk_wu (c : Dev nD) (t : Fin cfg0.N) (k : Fin 1024) (f : Fin 1408) :
    iblk m c 3 t (ix2 k f) = m ((c : Thread nD τ).loc main_arg3) (ix3 0 k (unitOf (tileOf t) f)) := by
  rw [← V_wu m c k]
  blk_ext [iblk, idx t]

/-- The down weight's block at a point. -/
theorem blk_wd (c : Dev nD) (t : Fin cfg0.N) (f : Fin 1408) (n : Fin 1024) :
    iblk m c 4 t (ix2 f n) = m ((c : Thread nD τ).loc main_arg4) (ix3 0 (unitOf (tileOf t) f) n) := by
  rw [← V_wd m c _ n]
  blk_ext [iblk, idx t]

/-- A sum over the hidden units, tile by tile. -/
theorem sum_two_tiles (f : Fin 2816 → EReal) :
    ∑ i, f i = (∑ i : Fin 1408, f (unitOf 0 i)) + ∑ i : Fin 1408, f (unitOf 1 i) := by
  refine (Fin.sum_univ_add (a := 1408) (b := 1408) f).trans ?_
  refine congrArg₂ (· + ·) ?_ ?_ <;> refine Finset.sum_congr rfl fun i _ => congrArg f (Fin.ext ?_)
  · show i.val = 0 * 1408 + i.val; omega
  · show 1408 + i.val = 1 * 1408 + i.val; omega

/-- A block of rows after both tiles is the reference's rows. -/
theorem rows_eq (c : Dev nD) (t u : Fin cfg0.N) (ht : t.val % 2 = 1) (hu : u.val + 1 = t.val) (r : Fin 512) (n : Fin 1024) :
    k0_pay4 (iblk m c 0 t) (k0_pay3 (k0_pay1 (iblk m c 0 u) (iblk m c 1 u)) (iblk m c 2 t) (iblk m c 3 t)
      (k0_pay3 (k0_pay1 (iblk m c 0 u) (iblk m c 1 u)) (iblk m c 2 u) (iblk m c 3 u) (k0_pay2 (F := Ideal)) (iblk m c 4 u))
      (iblk m c 4 t)) (ix2 r n)
    = REF (m ((c : Thread nD τ).loc main_arg0)) (m ((c : Thread nD τ).loc main_arg1)) (m ((c : Thread nD τ).loc main_arg2))
      (m ((c : Thread nD τ).loc main_arg3)) (m ((c : Thread nD τ).loc main_arg4)) (ix2 (rowOf t r) n) := by
  have hrow : rowOf u r = rowOf t r := by apply Fin.ext; show u.val / 2 * 512 + r.val = t.val / 2 * 512 + r.val; omega
  have htu : tileOf u = 0 := by apply Fin.ext; show u.val % 2 = 0; omega
  have htt : tileOf t = 1 := by apply Fin.ext; show t.val % 2 = 1; omega
  have hH : ∀ k : Fin 1024, k0_pay1 (F := Ideal) (iblk m c 0 u) (iblk m c 1 u) (ix2 r k)
      = refH (m ((c : Thread nD τ).loc main_arg0)) (m ((c : Thread nD τ).loc main_arg1)) (ix2 (rowOf t r) k) := by
    intro k
    rw [pay1_at, refH_at, blk_g]
    simp only [blk_x, hrow]
  rw [pay4_at, pay3_at, pay3_at, pay2_at, REF_at, zero_add]
  simp only [hH, blk_x, blk_wg, blk_wu, blk_wd, htu, htt, ← refDot_at]
  exact congrArg _ (sum_two_tiles fun f => unitTerm (m ((c : Thread nD τ).loc main_arg0)) (m ((c : Thread nD τ).loc main_arg1))
    (m ((c : Thread nD τ).loc main_arg2)) (m ((c : Thread nD τ).loc main_arg3)) (m ((c : Thread nD τ).loc main_arg4)) (rowOf t r) n f).symm

/-- The result array after the run is the reference's result. -/
theorem final (c : Dev nD) : (dats m 0 c).arrAt 5 cfg0.N
    = REF (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  have h1 : t.val % 2 = 1 := (flush0_5 t).mp hf
  have hp : t.val - 1 < cfg0.N := lt_of_le_of_lt (Nat.sub_le _ _) t.isLt
  blk_simp
  rw [after0_5, eq_ix2 y, second_point m c t h1 hp, (first_point m c ⟨t.val - 1, hp⟩ (by show (t.val - 1) % 2 = 0; omega)).1,
    (first_point m c ⟨t.val - 1, hp⟩ (by show (t.val - 1) % 2 = 0; omega)).2]
  refine (rows_eq m c t ⟨t.val - 1, hp⟩ h1 (by show t.val - 1 + 1 = t.val; omega) (y 0) (y 1)).trans ?_
  refine congrArg _ ?_
  blk_ext [idx t]

end Cert.Kernel2Ideal.Ffn

end
-- ==== Proof.AttnPre.lean ====
module

public import proofs.«01_k».proof.Pre_finite
public import Idealize.ShloMosaic.Lib.Pointwise
public import Idealize.ShloMosaic.Lib.IdealHost

@[expose] public section

noncomputable section

namespace Cert.Pre_finite

open Idealize.ShloMosaic

/-- The side conditions of the precondition's operations. -/
theorem facts : Facts := ⟨by decide, by decide, by decide⟩

/-- The f32 pattern `0x7F800000` is plus infinity. -/
theorem inf_top : Ideal.ofBits .f32 0x7F800000#32 = ⊤ := by
  simp [Ideal.ofBits, Ideal.ieee]

/-- An extended real whose absolute value is below plus infinity is real. -/
theorem real_of_cmp (x : EReal) (h : Ideal.cmp .olt (max x (-x)) (Ideal.ofBits .f32 0x7F800000#32) = 1#1) : ∃ r : ℝ, x = (r : EReal) := by
  rw [inf_top] at h
  induction x with
  | bot => simp [Ideal.cmp] at h
  | top => simp [Ideal.cmp] at h
  | coe r => exact ⟨r, rfl⟩

/-- An array all of whose elements compare below infinity in absolute value is real everywhere. -/
theorem real_of_all {S : Shape} (x : FVec Ideal S .f32) (hb : S_.BroadcastsInDim S (![] : Fin 0 → Fin S.rank))
    (h : cmpf .olt (Host.absf x) (broadcastInDim S ![] hb (constant S_ .f32 0x7F800000#32)) = fun _ => 1#1) (y : S.Idx) :
    ∃ r : ℝ, (x y : EReal) = (r : EReal) :=
  real_of_cmp (x y) (congrFun h y)

variable [Facts]

/-- The precondition says that the queries, the keys, the values and the lambda parameters are real everywhere. -/
theorem real_args (q k v : FVec Ideal S32768x768 .bf16) (l1 l2 l3 l4 : FVec Ideal S1x64 .f32) (g : FVec Ideal S1x128 .f32)
    (h : (fn q k v l1 l2 l3 l4 g).1 = (fun _ => 1#1) ∧ (fn q k v l1 l2 l3 l4 g).2.1 = (fun _ => 1#1) ∧ (fn q k v l1 l2 l3 l4 g).2.2.1 = (fun _ => 1#1)
      ∧ (fn q k v l1 l2 l3 l4 g).2.2.2.1 = (fun _ => 1#1) ∧ (fn q k v l1 l2 l3 l4 g).2.2.2.2.1 = (fun _ => 1#1)
      ∧ (fn q k v l1 l2 l3 l4 g).2.2.2.2.2.1 = (fun _ => 1#1) ∧ (fn q k v l1 l2 l3 l4 g).2.2.2.2.2.2 = (fun _ => 1#1)) :
    (∀ y, ∃ r : ℝ, (q y : EReal) = (r : EReal)) ∧ (∀ y, ∃ r : ℝ, (k y : EReal) = (r : EReal)) ∧ (∀ y, ∃ r : ℝ, (v y : EReal) = (r : EReal))
    ∧ (∀ y, ∃ r : ℝ, (l1 y : EReal) = (r : EReal)) ∧ (∀ y, ∃ r : ℝ, (l2 y : EReal) = (r : EReal))
    ∧ (∀ y, ∃ r : ℝ, (l3 y : EReal) = (r : EReal)) ∧ (∀ y, ∃ r : ℝ, (l4 y : EReal) = (r : EReal)) := by
  obtain ⟨h1, h2, h3, h4, h5, h6, h7⟩ := h
  exact ⟨fun y => real_of_all ((extf .f32 · Facts.bitsLt_bf16_f32) q) Facts.bcast_S_S32768x768 h1 y,
    fun y => real_of_all ((extf .f32 · Facts.bitsLt_bf16_f32) k) Facts.bcast_S_S32768x768 h2 y,
    fun y => real_of_all ((extf .f32 · Facts.bitsLt_bf16_f32) v) Facts.bcast_S_S32768x768 h3 y,
    real_of_all l1 Facts.bcast_S_S1x64 h4, real_of_all l2 Facts.bcast_S_S1x64 h5,
    real_of_all l3 Facts.bcast_S_S1x64 h6, real_of_all l4 Facts.bcast_S_S1x64 h7⟩

end Cert.Pre_finite

end

end
-- ==== Proof.Online.lean ====
/- The softmax computed block by block with a running maximum is the softmax over all keys: the arithmetic alone,
   over the extended reals, with no program in sight. -/
module

public import Idealize.ShloMosaic.Lib.Pointwise
public import Idealize.ShloMosaic.Lib.Claim

@[expose] public section

noncomputable section

namespace Cert.Online

open Idealize.ShloMosaic

/-- The exponential is nowhere negative. -/
theorem exp_nonneg (x : EReal) : 0 ≤ Ideal.exp x := by
  induction x with
  | bot => exact le_rfl
  | top => exact le_top
  | coe r => exact EReal.coe_nonneg.2 (Real.exp_pos r).le

/-- The exponential is infinite only at infinity. -/
theorem exp_ne_top {x : EReal} (h : x ≠ ⊤) : Ideal.exp x ≠ ⊤ := by
  induction x with
  | bot => exact EReal.zero_ne_top
  | top => exact absurd rfl h
  | coe r => exact EReal.coe_ne_top _

/-- A difference whose first term is at most its second is not infinite. -/
theorem sub_ne_top {x y : EReal} (h : x ≤ y) : x - y ≠ ⊤ := by
  induction y with
  | bot => rw [le_bot_iff.1 h]; simp
  | top => rw [EReal.sub_top]; exact bot_ne_top
  | coe r =>
    induction x with
    | bot => rw [EReal.bot_sub]; exact bot_ne_top
    | top => exact absurd (top_le_iff.1 h) (EReal.coe_ne_top _)
    | coe s => rw [← EReal.coe_sub]; exact EReal.coe_ne_top _

/-- Moving a weight from an old maximum to a new one. -/
theorem exp_mul_exp {x m m' : EReal} (hx : x ≤ m) (hm : m ≤ m') :
    Ideal.exp (m - m') * Ideal.exp (x - m) = Ideal.exp (x - m') := by
  have eb : Ideal.exp ⊥ = 0 := rfl
  induction m with
  | bot => rw [le_bot_iff.1 hx, EReal.bot_sub, eb, zero_mul]
  | top => rw [top_le_iff.1 hm, EReal.sub_top, EReal.sub_top, eb, zero_mul]
  | coe m =>
    induction m' with
    | bot => exact absurd (le_bot_iff.1 hm) (EReal.coe_ne_bot _)
    | top => rw [EReal.sub_top, EReal.sub_top, eb, zero_mul]
    | coe m' =>
      induction x with
      | bot => rw [EReal.bot_sub, EReal.bot_sub, eb, mul_zero]
      | top => exact absurd (top_le_iff.1 hx) (EReal.coe_ne_top _)
      | coe x =>
        rw [← EReal.coe_sub, ← EReal.coe_sub, ← EReal.coe_sub]
        show ((Real.exp (m - m') : ℝ) : EReal) * ((Real.exp (x - m) : ℝ) : EReal) = ((Real.exp (x - m') : ℝ) : EReal)
        rw [← EReal.coe_mul, ← Real.exp_add]
        congr 2
        ring

/-- A nonnegative finite factor goes into a sum. -/
theorem mul_sum_of_nonneg {ι : Type} (S : Finset ι) (f : ι → EReal) {c : EReal} (h0 : 0 ≤ c) (ht : c ≠ ⊤) :
    c * ∑ k ∈ S, f k = ∑ k ∈ S, c * f k := by
  classical
  induction S using Finset.induction_on with
  | empty => simp
  | insert a S ha ih =>
    rw [Finset.sum_insert ha, Finset.sum_insert ha, EReal.left_distrib_of_nonneg_of_ne_top h0 ht, ih]

variable {κ : Type} [Fintype κ] (s : ℕ → κ → EReal) (v : ℕ → κ → EReal)

/-- The running maximum after `n` blocks. -/
def M : ℕ → EReal
  | 0 => ⊥
  | n + 1 => max (M n) (Finset.univ.sup (s n))

/-- The running sum of weights after `n` blocks, rescaled at each step to the new maximum. -/
def L : ℕ → EReal
  | 0 => 0
  | n + 1 => Ideal.exp (M s n - M s (n + 1)) * L n + ∑ k, Ideal.exp (s n k - M s (n + 1))

/-- The running weighted sum after `n` blocks, rescaled at each step to the new maximum. -/
def A : ℕ → EReal
  | 0 => 0
  | n + 1 => Ideal.exp (M s n - M s (n + 1)) * A n + ∑ k, Ideal.exp (s n k - M s (n + 1)) * v n k

theorem M_le_succ (n : ℕ) : M s n ≤ M s (n + 1) := le_max_left _ _

theorem M_mono {a b : ℕ} (h : a ≤ b) : M s a ≤ M s b := by
  induction h with
  | refl => exact le_rfl
  | step _ ih => exact ih.trans (M_le_succ s _)

/-- No score of the blocks seen is above the running maximum. -/
theorem le_M {b n : ℕ} (h : b < n) (k : κ) : s b k ≤ M s n :=
  ((Finset.le_sup (f := s b) (Finset.mem_univ k)).trans (le_max_right _ _)).trans (M_mono s h)

/-- The running sum is the sum of the weights at the running maximum. -/
theorem L_eq : ∀ n, L s n = ∑ b ∈ Finset.range n, ∑ k, Ideal.exp (s b k - M s n)
  | 0 => rfl
  | n + 1 => by
    rw [L, L_eq n, Finset.sum_range_succ,
      mul_sum_of_nonneg _ _ (exp_nonneg _) (exp_ne_top (sub_ne_top (M_le_succ s n)))]
    refine congrArg (· + _) (Finset.sum_congr rfl fun b hb => ?_)
    rw [mul_sum_of_nonneg _ _ (exp_nonneg _) (exp_ne_top (sub_ne_top (M_le_succ s n)))]
    exact Finset.sum_congr rfl fun k _ => exp_mul_exp (le_M s (Finset.mem_range.1 hb) k) (M_le_succ s n)

/-- The running weighted sum is the weighted sum at the running maximum. -/
theorem A_eq : ∀ n, A s v n = ∑ b ∈ Finset.range n, ∑ k, Ideal.exp (s b k - M s n) * v b k
  | 0 => rfl
  | n + 1 => by
    rw [A, A_eq n, Finset.sum_range_succ,
      mul_sum_of_nonneg _ _ (exp_nonneg _) (exp_ne_top (sub_ne_top (M_le_succ s n)))]
    refine congrArg (· + _) (Finset.sum_congr rfl fun b hb => ?_)
    rw [mul_sum_of_nonneg _ _ (exp_nonneg _) (exp_ne_top (sub_ne_top (M_le_succ s n)))]
    refine Finset.sum_congr rfl fun k _ => ?_
    rw [← mul_assoc, exp_mul_exp (le_M s (Finset.mem_range.1 hb) k) (M_le_succ s n)]

/-- The running maximum is the supremum of the blocks seen. -/
theorem M_eq : ∀ n, M s n = (Finset.range n).sup fun b => Finset.univ.sup (s b)
  | 0 => rfl
  | n + 1 => by
    rw [M, M_eq n, Finset.range_add_one, Finset.sup_insert, max_comm]

/-- Blocks whose scores are all `-∞` leave the running maximum where it is. -/
theorem M_stop {n N : ℕ} (h : n ≤ N) (hb : ∀ b, n ≤ b → ∀ k, s b k = ⊥) : M s N = M s n := by
  induction h with
  | refl => rfl
  | @step N hN ih =>
    rw [M, ih, max_eq_left]
    exact Finset.sup_le fun k _ => (hb N hN k).le.trans bot_le

/-- Blocks whose scores are all `-∞` weigh nothing. -/
theorem sum_stop {n N : ℕ} (h : n ≤ N) (hb : ∀ b, n ≤ b → ∀ k, s b k = ⊥) (m : EReal) (w : ℕ → κ → EReal) :
    ∑ b ∈ Finset.range n, ∑ k, Ideal.exp (s b k - m) * w b k = ∑ b ∈ Finset.range N, ∑ k, Ideal.exp (s b k - m) * w b k := by
  refine Finset.sum_subset (Finset.range_mono h) fun b _ hn => Finset.sum_eq_zero fun k _ => ?_
  rw [hb b (not_lt.1 fun h => hn (Finset.mem_range.2 h)) k, EReal.bot_sub]
  exact zero_mul _

/-- The same for the plain weights. -/
theorem sum_stop' {n N : ℕ} (h : n ≤ N) (hb : ∀ b, n ≤ b → ∀ k, s b k = ⊥) (m : EReal) :
    ∑ b ∈ Finset.range n, ∑ k, Ideal.exp (s b k - m) = ∑ b ∈ Finset.range N, ∑ k, Ideal.exp (s b k - m) := by
  have := sum_stop s h hb m (fun _ _ => 1)
  simpa using this

/-! ## All keys at once -/

/-- Sums over 32 blocks of 256 keys are sums over the 8192 keys. -/
theorem sum_blocks (f : ℕ → EReal) :
    ∑ b ∈ Finset.range 32, ∑ k : Fin 256, f (b * 256 + k.val) = ∑ k : Fin 8192, f k.val := by
  rw [Fin.sum_univ_eq_sum_range (fun k => f k) 8192]
  have hin : ∀ b, ∑ k : Fin 256, f (b * 256 + k.val) = ∑ k ∈ Finset.range 256, f (b * 256 + k) := fun b =>
    Fin.sum_univ_eq_sum_range (fun k => f (b * 256 + k)) 256
  simp only [hin]
  have : ∀ n, ∑ b ∈ Finset.range n, ∑ k ∈ Finset.range 256, f (b * 256 + k) = ∑ k ∈ Finset.range (n * 256), f k := by
    intro n
    induction n with
    | zero => simp
    | succ n ih => rw [Finset.sum_range_succ, ih, Nat.succ_mul, Finset.sum_range_add]
  exact this 32

/-- The supremum over 32 blocks of 256 keys is the supremum over the 8192 keys. -/
theorem sup_blocks (f : ℕ → EReal) :
    ((Finset.range 32).sup fun b => Finset.univ.sup fun k : Fin 256 => f (b * 256 + k.val)) = Finset.univ.sup fun k : Fin 8192 => f k.val := by
  refine le_antisymm (Finset.sup_le fun b hb => Finset.sup_le fun k _ => ?_) (Finset.sup_le fun k _ => ?_)
  · have hb' := Finset.mem_range.1 hb
    exact Finset.le_sup (f := fun k : Fin 8192 => f k.val) (Finset.mem_univ (⟨b * 256 + k.val, by omega⟩ : Fin 8192))
  · have e : k.val = k.val / 256 * 256 + k.val % 256 := by omega
    refine le_trans ?_ (Finset.le_sup (f := fun b => Finset.univ.sup fun k : Fin 256 => f (b * 256 + k.val))
      (Finset.mem_range.2 (by omega : k.val / 256 < 32)))
    refine le_trans (le_of_eq ?_) (Finset.le_sup (f := fun k' : Fin 256 => f (k.val / 256 * 256 + k'.val))
      (Finset.mem_univ (⟨k.val % 256, by omega⟩ : Fin 256)))
    exact congrArg f e

/-- The weight of key `k` among scores `f`: its exponential at the greatest score. -/
def wt (f : ℕ → EReal) (k : ℕ) : EReal := Ideal.exp (f k - Finset.univ.sup fun j : Fin 8192 => f j.val)

/-- Blocks up to `n` and none after: the running sum is the sum of all keys' weights. -/
theorem L_all (f : ℕ → EReal) {n : ℕ} (hn : n ≤ 32) (hb : ∀ k, n * 256 ≤ k → f k = ⊥) :
    L (fun b (k : Fin 256) => f (b * 256 + k.val)) n = ∑ k : Fin 8192, wt f k.val := by
  have hb' : ∀ b, n ≤ b → ∀ k : Fin 256, f (b * 256 + k.val) = ⊥ := fun b h k =>
    hb _ ((Nat.mul_le_mul_right 256 h).trans (Nat.le_add_right _ _))
  rw [L_eq, sum_stop' _ hn hb', ← M_stop (fun b (k : Fin 256) => f (b * 256 + k.val)) hn hb', M_eq, sup_blocks f]
  exact sum_blocks (wt f)

/-- Blocks up to `n` and none after: the running weighted sum is the weighted sum over all keys. -/
theorem A_all (f w : ℕ → EReal) {n : ℕ} (hn : n ≤ 32) (hb : ∀ k, n * 256 ≤ k → f k = ⊥) :
    A (fun b (k : Fin 256) => f (b * 256 + k.val)) (fun b (k : Fin 256) => w (b * 256 + k.val)) n
      = ∑ k : Fin 8192, wt f k.val * w k.val := by
  have hb' : ∀ b, n ≤ b → ∀ k : Fin 256, f (b * 256 + k.val) = ⊥ := fun b h k =>
    hb _ ((Nat.mul_le_mul_right 256 h).trans (Nat.le_add_right _ _))
  rw [A_eq, sum_stop _ hn hb', ← M_stop (fun b (k : Fin 256) => f (b * 256 + k.val)) hn hb', M_eq, sup_blocks f]
  exact sum_blocks (fun k => wt f k * w k)

/-! ## Finite scores -/

/-- Scores that are finite or `-∞`, one of them finite: the weights are reals, and their sum is positive. -/
theorem wt_real (f : ℕ → EReal) (hf : ∀ k : Fin 8192, f k.val ≠ ⊤) (q : Fin 8192) (hq : f q.val ≠ ⊥) :
    ∃ P : Fin 8192 → ℝ, (∀ k, wt f k.val = (P k : EReal)) ∧ 0 < ∑ k, P k := by
  obtain ⟨S, hS⟩ : ∃ S : ℝ, (Finset.univ.sup fun j : Fin 8192 => f j.val) = (S : EReal) := by
    refine ⟨(Finset.univ.sup fun j : Fin 8192 => f j.val).toReal, (EReal.coe_toReal ?_ ?_).symm⟩
    · exact ((Finset.sup_lt_iff (bot_lt_top)).2 fun k _ => lt_top_iff_ne_top.2 (hf k)).ne
    · exact fun h => hq (le_bot_iff.1 (h ▸ Finset.le_sup (f := fun j : Fin 8192 => f j.val) (Finset.mem_univ q)))
  have hw : ∀ k : Fin 8192, ∃ p : ℝ, wt f k.val = (p : EReal) ∧ 0 ≤ p ∧ (f k.val ≠ ⊥ → 0 < p) := by
    intro k
    unfold wt
    rw [hS]
    have hk := hf k
    generalize f k.val = x at hk
    induction x with
    | bot => exact ⟨0, by rw [EReal.bot_sub]; rfl, le_rfl, fun h => absurd rfl h⟩
    | top => exact absurd rfl hk
    | coe x => exact ⟨Real.exp (x - S), by rw [← EReal.coe_sub]; rfl, (Real.exp_pos _).le, fun _ => Real.exp_pos _⟩
  choose P h1 h2 h3 using hw
  exact ⟨P, h1, Finset.sum_pos' (fun k _ => h2 k) ⟨q, Finset.mem_univ q, h3 q hq⟩⟩

/-- A quotient of reals by a nonzero real. -/
theorem div_real (x y : ℝ) (h : y ≠ 0) : Ideal.div (x : EReal) (y : EReal) = ((x / y : ℝ) : EReal) := by
  rw [Ideal.div, if_neg (by exact_mod_cast h), div_eq_mul_inv, EReal.coe_mul, EReal.coe_inv]

/-- A sum of reals. -/
theorem coe_sum {ι : Type} (S : Finset ι) (f : ι → ℝ) : ∑ k ∈ S, ((f k : ℝ) : EReal) = ((∑ k ∈ S, f k : ℝ) : EReal) := by
  classical
  induction S using Finset.induction_on with
  | empty => simp
  | insert a S ha ih => rw [Finset.sum_insert ha, Finset.sum_insert ha, ih, EReal.coe_add]

/-- The identity below among reals. -/
theorem combine_real {ι : Type} [Fintype ι] (P0 P1 W : ι → ℝ) (lam : ℝ) (p0 : ∑ k, P0 k ≠ 0) (p1 : ∑ k, P1 k ≠ 0) :
    Ideal.div (∑ k, (P0 k : EReal) * (W k : EReal)) (∑ k, (P0 k : EReal))
        - (lam : EReal) * Ideal.div (∑ k, (P1 k : EReal) * (W k : EReal)) (∑ k, (P1 k : EReal))
      = ∑ k, (W k : EReal) * (Ideal.div (P0 k : EReal) (∑ k, (P0 k : EReal))
          - (lam : EReal) * Ideal.div (P1 k : EReal) (∑ k, (P1 k : EReal))) := by
  simp only [← EReal.coe_mul, coe_sum, div_real _ _ p0, div_real _ _ p1, ← EReal.coe_sub]
  congr 1
  rw [Finset.sum_div, Finset.sum_div, Finset.mul_sum, ← Finset.sum_sub_distrib]
  exact Finset.sum_congr rfl fun k _ => by ring

/-- Dividing two weighted sums and taking their difference is the sum weighted by the difference of the quotients. -/
theorem combine (f0 f1 w : ℕ → EReal) (lam : ℝ) (h0 : ∀ k : Fin 8192, f0 k.val ≠ ⊤) (h1 : ∀ k : Fin 8192, f1 k.val ≠ ⊤)
    (q : Fin 8192) (g0 : f0 q.val ≠ ⊥) (g1 : f1 q.val ≠ ⊥) (hw : ∀ k : Fin 8192, ∃ r : ℝ, w k.val = (r : EReal)) :
    Ideal.div (∑ k : Fin 8192, wt f0 k.val * w k.val) (∑ k : Fin 8192, wt f0 k.val)
        - (lam : EReal) * Ideal.div (∑ k : Fin 8192, wt f1 k.val * w k.val) (∑ k : Fin 8192, wt f1 k.val)
      = ∑ k : Fin 8192, w k.val * (Ideal.div (wt f0 k.val) (∑ k : Fin 8192, wt f0 k.val)
          - (lam : EReal) * Ideal.div (wt f1 k.val) (∑ k : Fin 8192, wt f1 k.val)) := by
  obtain ⟨P0, e0, p0⟩ := wt_real f0 h0 q g0
  obtain ⟨P1, e1, p1⟩ := wt_real f1 h1 q g1
  choose W eW using hw
  simp only [e0, e1, eW]
  exact combine_real P0 P1 W lam p0.ne' p1.ne'

end Cert.Online

end

end
-- ==== Proof.AttnRef.lean ====
module

public import proofs.«01_k».proof.Proof.Gen.ReferenceIdeal
public import proofs.«01_k».proof.Proof.Online
public import Idealize.ShloMosaic.Lib.Pointwise

@[expose] public section

set_option maxRecDepth 16384

noncomputable section

namespace Cert.ReferenceIdeal.Attn

open Cert.ReferenceIdeal Cert.ReferenceIdeal.Gen Idealize.ShloMosaic Idealize.ShloMosaic.TcCoe Idealize.SL.Sem

/-- The reference's masked scores. -/
def refS (q k : FVec Ideal S32768x768 .bf16) : FVec Ideal S4x12x8192x8192 .f32 :=
  (select (broadcastInDim S4x12x8192x8192 ![2, 3] bcast_S8192x8192_S4x12x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (Host.dotGeneral dot_S4x8192x12x64_S4x8192x12x64_S4x12x8192x8192_3_3_1_1_02_02 none (shapeCast _ (extf .f32 q bitsLt_bf16_f32) shapeCasts_S32768x768_S4x8192x12x64) (shapeCast _ (extf .f32 k bitsLt_bf16_f32) shapeCasts_S32768x768_S4x8192x12x64)) (broadcastInDim S4x12x8192x8192 ![] bcast_S_S4x12x8192x8192 (id (constant S_ .f32 0xFF800000#32))))

/-- The reference's row maxima. -/
def refM (q k : FVec Ideal S32768x768 .bf16) : FVec Ideal S4x12x8192 .f32 :=
  (maximumf (broadcastInDim S4x12x8192 ![] bcast_S_S4x12x8192 (constant S_ .f32 0xFF800000#32)) (Host.reduce FloatOps.maximumf (refS q k) (constant S_ .f32 0xFF800000#32) reducesTo_S4x12x8192x8192_S4x12x8192_d3 h_S_))

/-- The reference's exponentials. -/
def refE (q k : FVec Ideal S32768x768 .bf16) : FVec Ideal S4x12x8192x8192 .f32 :=
  (Host.exp (subf (refS q k) (broadcastInDim S4x12x8192x8192 ![0, 1, 2, 3] bcast_S4x12x8192x1_S4x12x8192x8192_0_1_2_3 (broadcastInDim S4x12x8192x1 ![0, 1, 2] bcast_S4x12x8192_S4x12x8192x1_0_1_2 (refM q k)))))

/-- The reference's softmax. -/
def refP (q k : FVec Ideal S32768x768 .bf16) : FVec Ideal S4x12x8192x8192 .f32 :=
  (Host.divf (refE q k) (broadcastInDim S4x12x8192x8192 ![0, 1, 2, 3] bcast_S4x12x8192x1_S4x12x8192x8192_0_1_2_3 (broadcastInDim S4x12x8192x1 ![0, 1, 2] bcast_S4x12x8192_S4x12x8192x1_0_1_2 (Host.reduceAdd (refE q k) (constant S_ .f32 0x00000000#32) reducesTo_S4x12x8192x8192_S4x12x8192_d3 h_S_))))

/-- The weight of the second map. -/
def refLam (lq1 lk1 lq2 lk2 : FVec Ideal S1x64 .f32) : FVec Ideal S_ .f32 :=
  (addf (subf (Host.exp (Host.reduceAdd (mulf (shapeCast _ lq1 shapeCasts_S1x64_S64) (shapeCast _ lk1 shapeCasts_S1x64_S64)) (constant S_ .f32 0x00000000#32) reducesTo_S64_S_d0 h_S_)) (Host.exp (Host.reduceAdd (mulf (shapeCast _ lq2 shapeCasts_S1x64_S64) (shapeCast _ lk2 shapeCasts_S1x64_S64)) (constant S_ .f32 0x00000000#32) reducesTo_S64_S_d0 h_S_))) (constant S_ .f32 0x3EB60549#32))

/-- The difference of the two maps. -/
def refA (q k : FVec Ideal S32768x768 .bf16) (lq1 lk1 lq2 lk2 : FVec Ideal S1x64 .f32) : FVec Ideal S4x6x8192x8192 .f32 :=
  (subf (shapeCast _ (extractStridedSlice S4x6x1x8192x8192 ![0, 0, 0, 0, 0] (shapeCast _ (refP q k) shapeCasts_S4x12x8192x8192_S4x6x2x8192x8192) slices_S4x6x2x8192x8192_S4x6x1x8192x8192_0_0_0_0_0) shapeCasts_S4x6x1x8192x8192_S4x6x8192x8192) (mulf (broadcastInDim S4x6x8192x8192 ![] bcast_S_S4x6x8192x8192 (refLam lq1 lk1 lq2 lk2)) (shapeCast _ (extractStridedSlice S4x6x1x8192x8192 ![0, 0, 1, 0, 0] (shapeCast _ (refP q k) shapeCasts_S4x12x8192x8192_S4x6x2x8192x8192) slices_S4x6x2x8192x8192_S4x6x1x8192x8192_0_0_1_0_0) shapeCasts_S4x6x1x8192x8192_S4x6x8192x8192)))

/-- The attention's output, before its norm. -/
def refO (q k v : FVec Ideal S32768x768 .bf16) (lq1 lk1 lq2 lk2 : FVec Ideal S1x64 .f32) : FVec Ideal S4x8192x6x128 .f32 :=
  (transpose S4x8192x6x128 [0, 3, 1, 2] (Host.dotGeneral dot_S4x8192x6x128_S4x6x8192x8192_S4x6x128x8192_1_3_3_2_02_01 none (shapeCast _ (extf .f32 v bitsLt_bf16_f32) shapeCasts_S32768x768_S4x8192x6x128) (refA q k lq1 lk1 lq2 lk2)) transposes_S4x6x128x8192_S4x8192x6x128_0_3_1_2)

/-- The reference's result from its arguments. -/
def REF (q k v : FVec Ideal S32768x768 .bf16) (lq1 lk1 lq2 lk2 : FVec Ideal S1x64 .f32) (g : FVec Ideal S1x128 .f32) : FVec Ideal S32768x768 .bf16 :=
  truncf .bf16 (shapeCast _ (mulf (mulf (mulf (refO q k v lq1 lk1 lq2 lk2) (broadcastInDim S4x8192x6x128 ![0, 1, 2, 3] bcast_S4x8192x6x1_S4x8192x6x128_0_1_2_3 (Host.rsqrt (addf (Host.divf (broadcastInDim S4x8192x6x1 ![0, 1, 2] bcast_S4x8192x6_S4x8192x6x1_0_1_2 (Host.reduceAdd (mulf (refO q k v lq1 lk1 lq2 lk2) (refO q k v lq1 lk1 lq2 lk2)) (constant S_ .f32 0x00000000#32) reducesTo_S4x8192x6x128_S4x8192x6_d3 h_S_)) (broadcastInDim S4x8192x6x1 ![] bcast_S_S4x8192x6x1 (constant S_ .f32 0x43000000#32))) (broadcastInDim S4x8192x6x1 ![] bcast_S_S4x8192x6x1 (constant S_ .f32 0x358637BD#32)))))) (broadcastInDim S4x8192x6x128 ![0, 1, 2, 3] bcast_S1x1x1x128_S4x8192x6x128_0_1_2_3 (broadcastInDim S1x1x1x128 ![3] bcast_S128_S1x1x1x128_3 (shapeCast _ g shapeCasts_S1x128_S128)))) (broadcastInDim S4x8192x6x128 ![] bcast_S_S4x8192x6x128 (constant S_ .f32 0x3F24FD5C#32))) shapeCasts_S4x8192x6x128_S32768x768) bitsLt_bf16_f32

/-- The row of position `i` of sequence `b`. -/
def row (b : Fin 4) (i : Fin 8192) : Fin 32768 := ⟨b.val * 8192 + i.val, by have := b.isLt; have := i.isLt; omega⟩

/-- Lane `d` of head `h`. -/
def lane (h : Fin 12) (d : Fin 64) : Fin 768 := ⟨h.val * 64 + d.val, by have := h.isLt; have := d.isLt; omega⟩

/-- Lane `e` of value head `h`. -/
def vlane (h : Fin 6) (e : Fin 128) : Fin 768 := ⟨h.val * 128 + e.val, by have := h.isLt; have := e.isLt; omega⟩

/-- The word of `-∞`. -/
theorem ninf : Ideal.ofBits .f32 0xFF800000#32 = (⊥ : EReal) := by simp [Ideal.ofBits, Ideal.ieee]

/-- A maximum folded from `-∞` is a supremum. -/
theorem fold_bot {ι : Type} [Fintype ι] (f : ι → EReal) : Finset.fold max (⊥ : EReal) f Finset.univ = Finset.univ.sup f := by rfl

/-- A key is kept where its position is at most the query's. -/
theorem causal_word (i j : Fin 8192) :
    IntOp.cmpi .sle (BitVec.ofNat 32 j.val) (BitVec.ofNat 32 i.val) = if j.val ≤ i.val then 1#1 else 0#1 := by
  have t : ∀ x : Fin 8192, (BitVec.ofNat 32 x.val).toInt = (x.val : ℤ) := by
    intro x
    have := x.isLt
    rw [BitVec.toInt_eq_toNat_of_lt (by rw [BitVec.toNat_ofNat]; omega), BitVec.toNat_ofNat, Nat.mod_eq_of_lt (by omega)]
  show BitVec.ofBool (BitVec.sle _ _) = _
  rw [BitVec.sle, t, t]
  by_cases h : j.val ≤ i.val
  · rw [if_pos h, decide_eq_true (by omega)]; rfl
  · rw [if_neg h, decide_eq_false (by omega)]; rfl

/-- A maximum over the last of four axes, from the initial value. -/
theorem reduceMax_at {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce (FloatOps.maximumf : Ideal .f32 → Ideal .f32 → Ideal .f32) x init h hu (ix3 a b c)
      = Finset.fold max (init (Shape.Idx.first hu) : EReal) (fun k : Fin n3 => (x (ix4 a b c k) : EReal)) Finset.univ := by
  show Host.reduce (max : EReal → EReal → EReal) x init h hu (ix3 a b c) = _
  rw [Host.reduce_eq_fold]
  exact h.fold_fiber_r4_a3 (ix3 a b c) (max : EReal → EReal → EReal) (init (Shape.Idx.first hu)) x

/-- Splitting the head axis into pairs and taking one of each pair. -/
theorem pick_at {B H H2 S o : ℕ} (ho : o < 2) (hH : H2 = H * 2) (x : (⟨4, ![B, H2, S, S]⟩ : Shape).Idx → EReal)
    (h1 : (⟨4, ![B, H2, S, S]⟩ : Shape).ShapeCasts ⟨5, ![B, H, 2, S, S]⟩)
    (h2 : (⟨5, ![B, H, 2, S, S]⟩ : Shape).Slices ![0, 0, o, 0, 0] ⟨5, ![B, H, 1, S, S]⟩)
    (h3 : (⟨5, ![B, H, 1, S, S]⟩ : Shape).ShapeCasts ⟨4, ![B, H, S, S]⟩) (b : Fin B) (h : Fin H) (i j : Fin S) :
    shapeCast ⟨4, ![B, H, S, S]⟩ (extractStridedSlice ⟨5, ![B, H, 1, S, S]⟩ ![0, 0, o, 0, 0] (shapeCast ⟨5, ![B, H, 2, S, S]⟩ x h1) h2) h3 (ix4 b h i j)
      = x (ix4 b ⟨h.val * 2 + o, by have := h.isLt; omega⟩ i j) := by
  have e3 : Shape.reshapeEquiv h3 (ix4 b h i j) = ix5 b h (0 : Fin 1) i j := by
    refine Shape.reshapeEquiv_eq_of_vals h3 _ _ _ _ (rowMajor_val5 _ _ _ _ _ rfl rfl rfl rfl) (rowMajor_val4 _ _ _ _ rfl rfl rfl) ?_
    show b.val * (H * (1 * (S * S))) + h.val * (1 * (S * S)) + 0 * (S * S) + i.val * S + j.val = b.val * (H * (S * S)) + h.val * (S * S) + i.val * S + j.val
    ring
  have e1 : Shape.reshapeEquiv h1 (ix5 b h (⟨o, ho⟩ : Fin 2) i j) = ix4 b (⟨h.val * 2 + o, by have := h.isLt; omega⟩ : Fin H2) i j := by
    refine Shape.reshapeEquiv_eq_of_vals h1 _ _ _ _ (rowMajor_val4 _ _ _ _ rfl rfl rfl) (rowMajor_val5 _ _ _ _ _ rfl rfl rfl rfl) ?_
    show b.val * (H2 * (S * S)) + (h.val * 2 + o) * (S * S) + i.val * S + j.val
      = b.val * (H * (2 * (S * S))) + h.val * (2 * (S * S)) + o * (S * S) + i.val * S + j.val
    rw [hH]
    ring
  rw [Pointwise.shapeCast_apply, e3]
  refine (?_ : _ = shapeCast ⟨5, ![B, H, 2, S, S]⟩ x h1 (ix5 b h (⟨o, ho⟩ : Fin 2) i j)).trans ?_
  · refine congrArg (shapeCast ⟨5, ![B, H, 2, S, S]⟩ x h1) ?_
    funext a
    apply Fin.ext
    match a with
    | ⟨0, _⟩ => exact Nat.zero_add _
    | ⟨1, _⟩ => exact Nat.zero_add _
    | ⟨2, _⟩ => rfl
    | ⟨3, _⟩ => exact Nat.zero_add _
    | ⟨4, _⟩ => exact Nat.zero_add _
  · rw [Pointwise.shapeCast_apply, e1]

/-- One masked score. -/
theorem refS_at (q k : FVec Ideal S32768x768 .bf16) (b : Fin 4) (h : Fin 12) (i j : Fin 8192) :
    refS q k (ix4 b h i j) = if j.val ≤ i.val then (∑ d : Fin 64, (q (ix2 (row b i) (lane h d)) : EReal) * k (ix2 (row b j) (lane h d)) : EReal) else ⊥ := by
  pointwise [refS]
  rw [causal_word]
  have e : (id (constant (F := Ideal) S_ .f32 0xFF800000#32) ix0 : EReal) = ⊥ := ninf
  rw [e]
  split <;> rfl

/-- One row maximum. -/
theorem refM_at (q k : FVec Ideal S32768x768 .bf16) (b : Fin 4) (h : Fin 12) (i : Fin 8192) :
    refM q k (ix3 b h i) = Finset.univ.sup fun j : Fin 8192 => (refS q k (ix4 b h i j) : EReal) := by
  have key : ∀ R : FVec Ideal S4x12x8192 .f32, maximumf (broadcastInDim S4x12x8192 ![] bcast_S_S4x12x8192 (constant (F := Ideal) S_ .f32 0xFF800000#32)) R (ix3 b h i)
      = (max (Ideal.ofBits .f32 0xFF800000#32) (R (ix3 b h i)) : EReal) := fun R => by pointwise []
  unfold refM
  rw [key, reduceMax_at, ninf]
  generalize refS q k = Z
  have e0 : ∀ h1, ((constant (F := Ideal) S_ .f32 0xFF800000#32) (Shape.Idx.first h1) : EReal) = ⊥ := fun _ => ninf
  rw [e0, max_eq_right bot_le]
  exact fold_bot _

/-- One exponential. -/
theorem refE_at (q k : FVec Ideal S32768x768 .bf16) (b : Fin 4) (h : Fin 12) (i j : Fin 8192) :
    refE q k (ix4 b h i j) = Ideal.exp (refS q k (ix4 b h i j) - refM q k (ix3 b h i)) := by
  pointwise [refE]

/-- One weight of the softmax. -/
theorem refP_at (q k : FVec Ideal S32768x768 .bf16) (b : Fin 4) (h : Fin 12) (i j : Fin 8192) :
    refP q k (ix4 b h i j) = Ideal.div (refE q k (ix4 b h i j)) (∑ j : Fin 8192, (refE q k (ix4 b h i j) : EReal) : EReal) := by
  pointwise [refP]

/-- The weight of the second map, written out. -/
theorem refLam_at (lq1 lk1 lq2 lk2 : FVec Ideal S1x64 .f32) :
    refLam lq1 lk1 lq2 lk2 ix0 = (Ideal.exp (∑ d : Fin 64, lq1 (ix2 0 d) * lk1 (ix2 0 d)) - Ideal.exp (∑ d : Fin 64, lq2 (ix2 0 d) * lk2 (ix2 0 d))
      + Ideal.ofBits .f32 0x3EB60549#32 : EReal) := by
  pointwise [refLam]

/-- One weight of the difference of the two maps. -/
theorem refA_at (q k : FVec Ideal S32768x768 .bf16) (lq1 lk1 lq2 lk2 : FVec Ideal S1x64 .f32) (b : Fin 4) (h : Fin 6) (i j : Fin 8192) :
    refA q k lq1 lk1 lq2 lk2 (ix4 b h i j) = (refP q k (ix4 b ⟨h.val * 2, by omega⟩ i j) - refLam lq1 lk1 lq2 lk2 ix0 * refP q k (ix4 b ⟨h.val * 2 + 1, by omega⟩ i j) : EReal) := by
  unfold refA
  generalize refP q k = P
  generalize refLam lq1 lk1 lq2 lk2 = l
  have e0 := pick_at (B := 4) (H := 6) (H2 := 12) (S := 8192) (o := 0) (by decide) (by decide) P shapeCasts_S4x12x8192x8192_S4x6x2x8192x8192
    slices_S4x6x2x8192x8192_S4x6x1x8192x8192_0_0_0_0_0 shapeCasts_S4x6x1x8192x8192_S4x6x8192x8192 b h i j
  have e1 := pick_at (B := 4) (H := 6) (H2 := 12) (S := 8192) (o := 1) (by decide) (by decide) P shapeCasts_S4x12x8192x8192_S4x6x2x8192x8192
    slices_S4x6x2x8192x8192_S4x6x1x8192x8192_0_0_1_0_0 shapeCasts_S4x6x1x8192x8192_S4x6x8192x8192 b h i j
  have key : ∀ X Y : FVec Ideal S4x6x8192x8192 .f32, subf X (mulf (broadcastInDim S4x6x8192x8192 ![] bcast_S_S4x6x8192x8192 l) Y) (ix4 b h i j)
      = (X (ix4 b h i j) - l ix0 * Y (ix4 b h i j) : EReal) := fun X Y => by pointwise []
  rw [key, e0, e1]
  simp only [Nat.add_zero]

/-- One element of the attention's output, before its norm. -/
theorem refO_at (q k v : FVec Ideal S32768x768 .bf16) (lq1 lk1 lq2 lk2 : FVec Ideal S1x64 .f32) (b : Fin 4) (i : Fin 8192) (h : Fin 6) (e : Fin 128) :
    refO q k v lq1 lk1 lq2 lk2 (ix4 b i h e) = (∑ j : Fin 8192, (v (ix2 (row b j) (vlane h e)) : EReal) * refA q k lq1 lk1 lq2 lk2 (ix4 b h i j) : EReal) := by
  pointwise [refO]
  rfl

/-- One element of the reference's result. -/
theorem REF_at (q k v : FVec Ideal S32768x768 .bf16) (lq1 lk1 lq2 lk2 : FVec Ideal S1x64 .f32) (g : FVec Ideal S1x128 .f32) (b : Fin 4) (i : Fin 8192) (h : Fin 6) (e : Fin 128) :
    (REF q k v lq1 lk1 lq2 lk2 g (ix2 (row b i) (vlane h e)) : EReal)
      = ((refO q k v lq1 lk1 lq2 lk2 (ix4 b i h e)
          * Ideal.rsqrt (Ideal.div (∑ d : Fin 128, refO q k v lq1 lk1 lq2 lk2 (ix4 b i h d) * refO q k v lq1 lk1 lq2 lk2 (ix4 b i h d)) (Ideal.ofBits .f32 0x43000000#32) + Ideal.ofBits .f32 0x358637BD#32))
          * g (ix2 0 e) * Ideal.ofBits .f32 0x3F24FD5C#32 : EReal) := by
  have hb : ∀ h1, (⟨(row b i).val / 8192, h1⟩ : Fin 4) = b := fun _ => Fin.ext (by have := i.isLt; simp only [row]; omega)
  have hi : ∀ h1, (⟨(row b i).val % 8192, h1⟩ : Fin 8192) = i := fun _ => Fin.ext (by have := i.isLt; simp only [row]; omega)
  have hh : ∀ h1, (⟨(vlane h e).val / 128, h1⟩ : Fin 6) = h := fun _ => Fin.ext (by have := e.isLt; simp only [vlane]; omega)
  have he : ∀ h1, (⟨(vlane h e).val % 128, h1⟩ : Fin 128) = e := fun _ => Fin.ext (by have := e.isLt; simp only [vlane]; omega)
  pointwise [REF]
  simp only [hb, hi, hh, he]

end Cert.ReferenceIdeal.Attn

end

end
-- ==== Proof.AttnRun.lean ====
module

public import proofs.«01_k».proof.Proof.Gen.ReferenceIdeal.Run
public import proofs.«01_k».proof.Proof.AttnRef

@[expose] public section

set_option maxRecDepth 16384

noncomputable section

namespace Cert.ReferenceIdeal.Attn

open Cert.ReferenceIdeal Cert.ReferenceIdeal.Gen Idealize.ShloMosaic Idealize.ShloMosaic.TcCoe Idealize.SL.Sem

/-- What the reference program leaves in its result is `REF` of its arguments. -/
theorem res_eq (m : (ℓ : Loc nD τ sig) → Buf (Elt Ideal) ℓ) (c : Dev nD) :
    Cert.ReferenceIdeal.Value.res_main_v64 m c
      = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  unfold Cert.ReferenceIdeal.Value.res_main_v64 REF refO refA refP refE refM refS refLam
  rfl

end Cert.ReferenceIdeal.Attn

end

end
-- ==== Proof.AttnState.lean ====
module

public import proofs.«01_k».proof.Proof.Gen.KernelIdeal.Frame
public import Idealize.ShloMosaic.Lib.Pointwise
public import Idealize.ShloMosaic.Lib.Pipeline.ValueKit
public import Idealize.ShloMosaic.Lib.Pipeline.ReadBack
public import Idealize.ShloMosaic.Lib.VecWindow
public import Idealize.ShloMosaic.Lib.Claim

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

/-- The zero offsets. -/
theorem hz : (![0, 0] : Fin 2 → ℕ) = fun _ => 0 := funext fun a => by fin_cases a <;> rfl

variable (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S8x128 .f32) (harg6 : arg6.IsWhole) (arg7 : Memref sig .tc .vmem S1x128 .f32) (harg7 : arg7.IsWhole) (arg8 : Memref sig .tc .vmem S256x128 .bf16) (harg8 : arg8.IsWhole) (arg9 : Memref sig .tc .vmem S512x128 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x128 .f32) (harg12 : arg12.IsWhole)

/-- The first loop runs once per key block below the query block. -/
theorem trips1 (i : grid0.Coords) : (k0_t1_loop i).trips = (i 2).val := by
  have h : (i 2).val < 32 := (i 2).isLt
  dsimp only [k0_t1_loop]
  generalize (i 2).val = n at h ⊢
  interval_cases n <;> decide +kernel

/-- The second loop never runs. -/
theorem trips2 (i : grid0.Coords) : (k0_t2_loop i).trips = 0 := by
  have h : (i 2).val < 32 := (i 2).isLt
  dsimp only [k0_t2_loop]
  generalize (i 2).val = n at h ⊢
  interval_cases n <;> decide +kernel

/-- Trip `k` loads the rows of key block `k`. -/
theorem off1_eq (i : grid0.Coords) (k : Fin (k0_t1_loop i).trips) : k0_off1 i k = ![k.val * 256, 0] := by
  have h : (i 2).val < 32 := (i 2).isLt
  have hk : k.val < 32 := lt_of_lt_of_le k.isLt (by rw [trips1]; omega)
  dsimp only [k0_off1]
  generalize k.val = n at hk ⊢
  interval_cases n <;> decide +kernel

/-- The last step loads the rows of the query block's own key block. -/
theorem off3_eq (i : grid0.Coords) : k0_off3 i = ![(i 2).val * 256, 0] := by
  have h : (i 2).val < 32 := (i 2).isLt
  dsimp only [k0_off3]
  generalize (i 2).val = n at h ⊢
  interval_cases n <;> decide +kernel

/-- Row block `n` (256 rows) of the keys or the values. -/
def rowsAt (x : Vec Ideal S8192x128 .bf16) (n : ℕ) : Vec Ideal S256x128 .bf16 :=
  fun j => x (ix2 ⟨(n * 256 + (j 0).val) % 8192, Nat.mod_lt _ (by norm_num)⟩ (j 1))

/-- A load of 256 whole rows from row `256 n` on is row block `n`. -/
theorem ld_rows (x : Vec Ideal S8192x128 .bf16) (n : ℕ) {off : Fin 2 → ℕ} (ho : off = ![n * 256, 0])
    (inb : ∀ a, off a + S256x128.size a ≤ S8192x128.size a) :
    View.ld (Val := Elt Ideal) x (Rect.unit (s := S8192x128) off S256x128.size inb) = rowsAt x n := by
  subst ho
  funext j
  have h0 : n * 256 + 256 ≤ 8192 := inb 0
  have hj : (j 0).val < 256 := (j 0).isLt
  show x _ = x _
  congr 1
  funext a
  apply Fin.ext
  match a with
  | ⟨0, _⟩ => show n * 256 + 1 * (j 0).val = (n * 256 + (j 0).val) % 8192; omega
  | ⟨1, _⟩ => show 0 + 1 * (j 1).val = (j 1).val; omega

/-- The queries as the kernel stacks them: the first head's lanes in rows 0–255, the second head's in rows 256–511. -/
def stacked (x0 : Vec Ideal S256x128 .bf16) : Vec Ideal S512x128 .bf16 :=
  View.canon (Val := Elt Ideal) [⟨Rect.unit ![256, 0] S256x128.size inb_S512x128_S256x128_256_0, k0_pay15 (F := Ideal) x0⟩,
    ⟨Rect.unit ![0, 0] S256x128.size inb_S512x128_S256x128_0_0, k0_pay14 (F := Ideal) x0⟩]

/-- The running maximum, the running sum and the running product after the first `n` key blocks, none of them masked. -/
def st (qs : Vec Ideal S512x128 .bf16) (x1 x2 : Vec Ideal S8192x128 .bf16) :
    ℕ → Vec Ideal S512x1 .f32 × Vec Ideal S512x1 .f32 × Vec Ideal S512x128 .f32
  | 0 => (k0_pay16 (F := Ideal), k0_pay17 (F := Ideal), k0_pay18 (F := Ideal))
  | n + 1 => (k0_pay19 (F := Ideal) (k0_pay3 (F := Ideal) (rowsAt x1 n) qs (st qs x1 x2 n).1),
      k0_pay6 (F := Ideal) (rowsAt x1 n) qs (st qs x1 x2 n).1 (st qs x1 x2 n).2.1,
      k0_pay7 (F := Ideal) (rowsAt x1 n) (rowsAt x2 n) qs (st qs x1 x2 n).1 (st qs x1 x2 n).2.2)

/-- What the three scratch buffers read after `n` trips of the first loop, from what they read at its entry. -/
theorem loop_state (c : Dev nD) (i : grid0.Coords) (a2 w28 w256 w29 w0 : BitVec 32)
    (x1 x2 : Vec Ideal S8192x128 .bf16) (qs : Vec Ideal S512x128 .bf16)
    (X9 : BufTy.Contents (Elt Ideal) arg9.view.ty) (G10 : BufTy.Contents (Elt Ideal) arg10.view.ty)
    (G11 : BufTy.Contents (Elt Ideal) arg11.view.ty) (G12 : BufTy.Contents (Elt Ideal) arg12.view.ty)
    (h9 : arg9.view.read (Elt Ideal) X9 = qs) (h10 : arg10.view.read (Elt Ideal) G10 = k0_pay16 (F := Ideal))
    (h11 : arg11.view.read (Elt Ideal) G11 = k0_pay17 (F := Ideal)) (h12 : arg12.view.read (Elt Ideal) G12 = k0_pay18 (F := Ideal)) :
    ∀ n : ℕ, n ≤ (k0_t1_loop i).trips →
      arg10.view.read (Elt Ideal) (arg10.view.writes (Elt Ideal) G10 (pb_k0_t1 (F := Ideal) Variants.none c none i arg3 harg3 arg4 harg4 arg5 harg5 arg6 harg6 arg7 harg7 arg8 harg8 arg9 harg9 arg10 harg10 arg11 harg11 arg12 harg12 a2 w28 w256 w29 w0 (harg4.unread x1) (harg5.unread x2) X9 G10 G11 G12 n).1) = (st qs x1 x2 n).1
      ∧ arg11.view.read (Elt Ideal) (arg11.view.writes (Elt Ideal) G11 (pb_k0_t1 (F := Ideal) Variants.none c none i arg3 harg3 arg4 harg4 arg5 harg5 arg6 harg6 arg7 harg7 arg8 harg8 arg9 harg9 arg10 harg10 arg11 harg11 arg12 harg12 a2 w28 w256 w29 w0 (harg4.unread x1) (harg5.unread x2) X9 G10 G11 G12 n).2.1) = (st qs x1 x2 n).2.1
      ∧ arg12.view.read (Elt Ideal) (arg12.view.writes (Elt Ideal) G12 (pb_k0_t1 (F := Ideal) Variants.none c none i arg3 harg3 arg4 harg4 arg5 harg5 arg6 harg6 arg7 harg7 arg8 harg8 arg9 harg9 arg10 harg10 arg11 harg11 arg12 harg12 a2 w28 w256 w29 w0 (harg4.unread x1) (harg5.unread x2) X9 G10 G11 G12 n).2.2) = (st qs x1 x2 n).2.2
  | 0, _ => ⟨h10, h11, h12⟩
  | n + 1, hn => by
    obtain ⟨i10, i11, i12⟩ := loop_state c i a2 w28 w256 w29 w0 x1 x2 qs X9 G10 G11 G12 h9 h10 h11 h12 n (Nat.le_of_succ_le hn)
    have e := pb_k0_t1_succ (F := Ideal) Variants.none c none i arg3 harg3 arg4 harg4 arg5 harg5 arg6 harg6 arg7 harg7 arg8 harg8 arg9 harg9 arg10 harg10 arg11 harg11 arg12 harg12 a2 w28 w256 w29 w0 (harg4.unread x1) (harg5.unread x2) X9 G10 G11 G12 ⟨n, hn⟩
    dsimp only at e
    rw [e]
    generalize (pb_k0_t1 (F := Ideal) Variants.none c none i arg3 harg3 arg4 harg4 arg5 harg5 arg6 harg6 arg7 harg7 arg8 harg8 arg9 harg9 arg10 harg10 arg11 harg11 arg12 harg12 a2 w28 w256 w29 w0 (harg4.unread x1) (harg5.unread x2) X9 G10 G11 G12 n) = P at i10 i11 i12 ⊢
    unfold trip_k0_t1
    dsimp only
    sl_unfold_words
    simp only [List.cons_append, List.nil_append]
    have l1 := ld_rows x1 n (off1_eq i ⟨n, hn⟩) (k0_off1_inb i ⟨n, hn⟩)
    have l2 := ld_rows x2 n (off1_eq i ⟨n, hn⟩) (k0_off1_inb i ⟨n, hn⟩)
    refine ⟨?_, ?_, ?_⟩
    · refine (View.read_writes_full _ _ _ _ _).trans ?_
      simp only [View.readAt_eq_ld, harg4.read_unread, harg5.read_unread, h9, i10, i11, i12,
        View.ld_unit_zero (S := S512x1) hz, View.ld_unit_zero (S := S512x128) hz]
      show _ = k0_pay19 (F := Ideal) (k0_pay3 (F := Ideal) (rowsAt x1 n) qs (st qs x1 x2 n).1)
      rw [← l1]
      rfl
    · refine (View.read_writes_full _ _ _ _ _).trans ?_
      simp only [View.readAt_eq_ld, harg4.read_unread, harg5.read_unread, h9, i10, i11, i12,
        View.ld_unit_zero (S := S512x1) hz, View.ld_unit_zero (S := S512x128) hz]
      show _ = k0_pay6 (F := Ideal) (rowsAt x1 n) qs (st qs x1 x2 n).1 (st qs x1 x2 n).2.1
      rw [← l1]
      rfl
    · refine (View.read_writes_full _ _ _ _ _).trans ?_
      simp only [View.readAt_eq_ld, harg4.read_unread, harg5.read_unread, h9, i10, i11, i12,
        View.ld_unit_zero (S := S512x1) hz, View.ld_unit_zero (S := S512x128) hz]
      show _ = k0_pay7 (F := Ideal) (rowsAt x1 n) (rowsAt x2 n) qs (st qs x1 x2 n).1 (st qs x1 x2 n).2.2
      rw [← l1, ← l2]
      rfl

end Cert.KernelIdeal.Attn

end

end
-- ==== Proof.AttnOut.lean ====
module

public import proofs.«01_k».proof.Proof.AttnState
public import Idealize.ShloMosaic.Lib.Pointwise
public import Idealize.ShloMosaic.Lib.Pipeline.ValueKit
public import Idealize.ShloMosaic.Lib.Pipeline.ReadBack
public import Idealize.ShloMosaic.Lib.VecWindow
public import Idealize.ShloMosaic.Lib.Claim

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S8x128 .f32) (harg6 : arg6.IsWhole) (arg7 : Memref sig .tc .vmem S1x128 .f32) (harg7 : arg7.IsWhole) (arg8 : Memref sig .tc .vmem S256x128 .bf16) (harg8 : arg8.IsWhole) (arg9 : Memref sig .tc .vmem S512x128 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x128 .f32) (harg12 : arg12.IsWhole)

/-- The query block's number, as the kernel's words compute it. -/
theorem v51_eq (i : grid0.Coords) : kernelRun0_A.sl.v51 i = BitVec.ofNat 32 (i 2).val := by
  have h : (i 2).val < 32 := (i 2).isLt
  sl_unfold_words
  generalize (i 2).val = n at h ⊢
  interval_cases n <;> decide +kernel

/-- The first 256 rows of the stacked running product. -/
def top (x : Vec Ideal S512x128 .f32) : Vec Ideal S256x128 .f32 := fun j => x (ix2 ⟨(j 0).val, by have : (j 0).val < 256 := (j 0).isLt; omega⟩ (j 1))
/-- The last 256 rows of the stacked running product. -/
def bot (x : Vec Ideal S512x128 .f32) : Vec Ideal S256x128 .f32 := fun j => x (ix2 ⟨256 + (j 0).val, by have : (j 0).val < 256 := (j 0).isLt; omega⟩ (j 1))
/-- The first 256 rows of the stacked running sum. -/
def topL (x : Vec Ideal S512x1 .f32) : Vec Ideal S256x1 .f32 := fun j => x (ix2 ⟨(j 0).val, by have : (j 0).val < 256 := (j 0).isLt; omega⟩ (j 1))
/-- The last 256 rows of the stacked running sum. -/
def botL (x : Vec Ideal S512x1 .f32) : Vec Ideal S256x1 .f32 := fun j => x (ix2 ⟨256 + (j 0).val, by have : (j 0).val < 256 := (j 0).isLt; omega⟩ (j 1))

/-- The row numbers of the stacked score block. -/
abbrev rowNo : IVec S512x256 32 := iota Kind.tc S512x256 32 [0] iota_S512x256_d0_w32

/-- The running sum after the last, masked step of query block `n`. -/
def lastL (n : ℕ) (qs : Vec Ideal S512x128 .bf16) (x1 x2 : Vec Ideal S8192x128 .bf16) : Vec Ideal S512x1 .f32 :=
  k0_pay26 (F := Ideal) (BitVec.ofNat 32 n) (k0_pay21 (F := Ideal) (rowsAt x1 n) qs) (Scalar.muli (BitVec.ofNat 32 n) 256#32) rowNo 256#32
    (st qs x1 x2 n).1 (st qs x1 x2 n).2.1

/-- The running product after the last, masked step of query block `n`. -/
def lastA (n : ℕ) (qs : Vec Ideal S512x128 .bf16) (x1 x2 : Vec Ideal S8192x128 .bf16) : Vec Ideal S512x128 .f32 :=
  k0_pay29 (F := Ideal) (rowsAt x2 n)
    (k0_pay27 (F := Ideal) (BitVec.ofNat 32 n) (k0_pay21 (F := Ideal) (rowsAt x1 n) qs) (Scalar.muli (BitVec.ofNat 32 n) 256#32) rowNo 256#32
      (st qs x1 x2 n).1 (st qs x1 x2 n).2.2)
    (k0_pay28 (F := Ideal) (BitVec.ofNat 32 n) (k0_pay21 (F := Ideal) (rowsAt x1 n) qs) (Scalar.muli (BitVec.ofNat 32 n) 256#32) rowNo 256#32
      (st qs x1 x2 n).1)

/-- What one grid point leaves in its output block. -/
theorem out_eq (c : Dev nD) (i : grid0.Coords) (x0 : Vec Ideal S256x128 .bf16) (x1 x2 : Vec Ideal S8192x128 .bf16)
    (x3 : Vec Ideal S8x128 .f32) (x4 : Vec Ideal S1x128 .f32) :
    out0_A_5 (F := Ideal) c i arg3 harg3 arg4 harg4 arg5 harg5 arg6 harg6 arg7 harg7 arg8 harg8 arg9 harg9 arg10 harg10 arg11 harg11 arg12 harg12 x0 x1 x2 x3 x4
      = k0_pay1 (F := Ideal) (k0_pay31 (F := Ideal) x3 (top (lastA (i 2).val (stacked x0) x1 x2)) (topL (lastL (i 2).val (stacked x0) x1 x2))
          (bot (lastA (i 2).val (stacked x0) x1 x2)) (botL (lastL (i 2).val (stacked x0) x1 x2))) (k0_pay32 (F := Ideal) x4) := by
  have h2 : Scf.trips (k0_t2_loop i).lb (k0_t2_loop i).ub (k0_t2_loop i).st = 0 := trips2 i
  have h1 : Scf.trips (k0_t1_loop i).lb (k0_t1_loop i).ub (k0_t1_loop i).st = (i 2).val := trips1 i
  have e0 : View.readAt (Elt Ideal) arg3.view (Rect.unit ![0, 0] S256x128.size inb_S256x128_S256x128_0_0).toLoadRect (harg3.unread x0) = x0 := by
    rw [View.readAt_eq_ld, harg3.read_unread, View.ld_unit_zero (S := S256x128) hz]
  have eq9 : arg9.view.read (Elt Ideal) (arg9.view.writes (Elt Ideal) arg9.view.junk (kernelRun0_A.sl.HS0_2 (F := Ideal) c arg3 harg3 x0)) = stacked x0 := by
    rw [View.read_writes_junk_eq_canon]
    unfold kernelRun0_A.sl.HS0_2
    rw [e0]
    rfl
  have S := loop_state arg3 harg3 arg4 harg4 arg5 harg5 arg6 harg6 arg7 harg7 arg8 harg8 arg9 harg9 arg10 harg10 arg11 harg11 arg12 harg12 c i (BitVec.ofNat 32 (i 2).val) (kernelRun0_A.sl.v28 i) 256#32 (kernelRun0_A.sl.v29 i) 0#32 x1 x2 (stacked x0)
    (arg9.view.writes (Elt Ideal) arg9.view.junk (kernelRun0_A.sl.HS0_2 (F := Ideal) c arg3 harg3 x0))
    (arg10.view.writes (Elt Ideal) arg10.view.junk (kernelRun0_A.sl.HS1_1 (F := Ideal)))
    (arg11.view.writes (Elt Ideal) arg11.view.junk (kernelRun0_A.sl.HS2_1 (F := Ideal)))
    (arg12.view.writes (Elt Ideal) arg12.view.junk (kernelRun0_A.sl.HS3_1 (F := Ideal)))
    eq9 (View.read_writes_full _ _ _ _ _) (View.read_writes_full _ _ _ _ _) (View.read_writes_full _ _ _ _ _) (i 2).val (le_of_eq (trips1 i).symm)
  have w60 : kernelRun0_A.sl.v60 (F := Ideal) c arg3 harg3 arg9 x0 = stacked x0 := by
    unfold kernelRun0_A.sl.v60
    rw [View.readCov_eq_canon', ← View.read_writes_junk_eq_canon arg9.view, eq9]
    exact View.ld_unit_zero (S := S512x128) hz _ _
  have w89 : kernelRun0_A.sl.v89 (F := Ideal) c i arg3 harg3 arg4 harg4 arg5 harg5 arg6 harg6 arg7 harg7 arg8 harg8 arg9 harg9 arg10 harg10 arg11 harg11 arg12 harg12 x0 x1 x2 = (st (stacked x0) x1 x2 (i 2).val).1 := by
    unfold kernelRun0_A.sl.v89
    rw [h2, h1]
    simp only [pb_k0_t2, List.nil_append]
    unfold View.readCov
    rw [View.writes_append, View.readAt_eq_ld, S.1]
    exact View.ld_unit_zero (S := S512x1) hz _ _
  have w98 : kernelRun0_A.sl.v98 (F := Ideal) c i arg3 harg3 arg4 harg4 arg5 harg5 arg6 harg6 arg7 harg7 arg8 harg8 arg9 harg9 arg10 harg10 arg11 harg11 arg12 harg12 x0 x1 x2 = (st (stacked x0) x1 x2 (i 2).val).2.1 := by
    unfold kernelRun0_A.sl.v98
    rw [h2, h1]
    simp only [pb_k0_t2, List.nil_append]
    unfold View.readCov
    rw [View.writes_append, View.readAt_eq_ld, S.2.1]
    exact View.ld_unit_zero (S := S512x1) hz _ _
  have w106 : kernelRun0_A.sl.v106 (F := Ideal) c i arg3 harg3 arg4 harg4 arg5 harg5 arg6 harg6 arg7 harg7 arg8 harg8 arg9 harg9 arg10 harg10 arg11 harg11 arg12 harg12 x0 x1 x2 = (st (stacked x0) x1 x2 (i 2).val).2.2 := by
    unfold kernelRun0_A.sl.v106
    rw [h2, h1]
    simp only [pb_k0_t2, List.nil_append]
    unfold View.readCov
    rw [View.writes_append, View.readAt_eq_ld, S.2.2]
    exact View.ld_unit_zero (S := S512x128) hz _ _
  have wr : kernelRun0_A.sl.r (F := Ideal) i arg5 harg5 x2 = rowsAt x2 (i 2).val := by
    unfold kernelRun0_A.sl.r
    rw [View.readAt_eq_ld, harg5.read_unread]
    exact ld_rows x2 _ (off3_eq i) _
  have wr1 : kernelRun0_A.sl.r_1 (F := Ideal) c i arg3 harg3 arg4 harg4 arg9 x0 x1 = k0_pay21 (F := Ideal) (rowsAt x1 (i 2).val) (stacked x0) := by
    unfold kernelRun0_A.sl.r_1
    rw [w60, View.readAt_eq_ld, harg4.read_unread]
    exact congrArg (fun z => k0_pay21 (F := Ideal) z (stacked x0)) (ld_rows x1 _ (off3_eq i) _)
  have w62 : kernelRun0_A.sl.v62 i = Scalar.muli (BitVec.ofNat 32 (i 2).val) 256#32 := rfl
  have w63 : kernelRun0_A.sl.v63 = rowNo := rfl
  have wr3 : kernelRun0_A.sl.r_3 (F := Ideal) c i arg3 harg3 arg4 harg4 arg5 harg5 arg6 harg6 arg7 harg7 arg8 harg8 arg9 harg9 arg10 harg10 arg11 harg11 arg12 harg12 x0 x1 x2
      = k0_pay27 (F := Ideal) (BitVec.ofNat 32 (i 2).val) (k0_pay21 (F := Ideal) (rowsAt x1 (i 2).val) (stacked x0)) (Scalar.muli (BitVec.ofNat 32 (i 2).val) 256#32) rowNo 256#32
      (st (stacked x0) x1 x2 (i 2).val).1 (st (stacked x0) x1 x2 (i 2).val).2.2 := by
    unfold kernelRun0_A.sl.r_3
    rw [wr1, w89, w106, v51_eq, w62, w63]
  have wr4 : kernelRun0_A.sl.r_4 (F := Ideal) c i arg3 harg3 arg4 harg4 arg5 harg5 arg6 harg6 arg7 harg7 arg8 harg8 arg9 harg9 arg10 harg10 arg11 harg11 arg12 harg12 x0 x1 x2
      = k0_pay28 (F := Ideal) (BitVec.ofNat 32 (i 2).val) (k0_pay21 (F := Ideal) (rowsAt x1 (i 2).val) (stacked x0)) (Scalar.muli (BitVec.ofNat 32 (i 2).val) 256#32) rowNo 256#32
      (st (stacked x0) x1 x2 (i 2).val).1 := by
    unfold kernelRun0_A.sl.r_4
    rw [wr1, w89, v51_eq, w62, w63]
  have w135 : kernelRun0_A.sl.v135 (F := Ideal) c i arg3 harg3 arg4 harg4 arg5 harg5 arg6 harg6 arg7 harg7 arg8 harg8 arg9 harg9 arg10 harg10 arg11 harg11 arg12 harg12 x0 x1 x2 = top (lastA (i 2).val (stacked x0) x1 x2) := by
    unfold kernelRun0_A.sl.v135 kernelRun0_A.sl.HS3_1_1
    rw [View.readCov_fill _ _ _ _ _ (by decide), wr, wr3, wr4]
    funext j
    refine congrArg (lastA (i 2).val (stacked x0) x1 x2) ?_
    funext a; apply Fin.ext
    match a with
    | ⟨0, _⟩ => show 0 + 1 * (j 0).val = (j 0).val; omega
    | ⟨1, _⟩ => show 0 + 1 * (j 1).val = (j 1).val; omega
  have w139 : kernelRun0_A.sl.v139 (F := Ideal) c i arg3 harg3 arg4 harg4 arg5 harg5 arg6 harg6 arg7 harg7 arg8 harg8 arg9 harg9 arg10 harg10 arg11 harg11 arg12 harg12 x0 x1 x2 = bot (lastA (i 2).val (stacked x0) x1 x2) := by
    unfold kernelRun0_A.sl.v139 kernelRun0_A.sl.HS3_1_1
    rw [View.readCov_fill _ _ _ _ _ (by decide), wr, wr3, wr4]
    funext j
    refine congrArg (lastA (i 2).val (stacked x0) x1 x2) ?_
    funext a; apply Fin.ext
    match a with
    | ⟨0, _⟩ => show 256 + 1 * (j 0).val = 256 + (j 0).val; omega
    | ⟨1, _⟩ => show 0 + 1 * (j 1).val = (j 1).val; omega
  have w136 : kernelRun0_A.sl.v136 (F := Ideal) c i arg3 harg3 arg4 harg4 arg5 harg5 arg6 harg6 arg7 harg7 arg8 harg8 arg9 harg9 arg10 harg10 arg11 harg11 arg12 harg12 x0 x1 x2 = topL (lastL (i 2).val (stacked x0) x1 x2) := by
    unfold kernelRun0_A.sl.v136 kernelRun0_A.sl.HS2_1_1
    rw [View.readCov_fill _ _ _ _ _ (by decide), wr1, w89, w98, v51_eq, w62, w63]
    funext j
    refine congrArg (lastL (i 2).val (stacked x0) x1 x2) ?_
    funext a; apply Fin.ext
    match a with
    | ⟨0, _⟩ => show 0 + 1 * (j 0).val = (j 0).val; omega
    | ⟨1, _⟩ => show 0 + 1 * (j 1).val = (j 1).val; omega
  have w140 : kernelRun0_A.sl.v140 (F := Ideal) c i arg3 harg3 arg4 harg4 arg5 harg5 arg6 harg6 arg7 harg7 arg8 harg8 arg9 harg9 arg10 harg10 arg11 harg11 arg12 harg12 x0 x1 x2 = botL (lastL (i 2).val (stacked x0) x1 x2) := by
    unfold kernelRun0_A.sl.v140 kernelRun0_A.sl.HS2_1_1
    rw [View.readCov_fill _ _ _ _ _ (by decide), wr1, w89, w98, v51_eq, w62, w63]
    funext j
    refine congrArg (lastL (i 2).val (stacked x0) x1 x2) ?_
    funext a; apply Fin.ext
    match a with
    | ⟨0, _⟩ => show 256 + 1 * (j 0).val = 256 + (j 0).val; omega
    | ⟨1, _⟩ => show 0 + 1 * (j 1).val = (j 1).val; omega
  unfold out0_A_5
  rw [View.read_writes_junk_eq_canon]
  unfold kernelRun0_A
  dsimp only
  rw [View.canon_cons_unit_zero (S := S256x128) hz]
  unfold kernelRun0_A.sl.r_5 kernelRun0_A.sl.r_6
  rw [w135, w136, w139, w140, View.readAt_eq_ld, harg6.read_unread, View.ld_unit_zero (S := S8x128) hz, View.readAt_eq_ld, harg7.read_unread,
    View.ld_unit_zero (S := S1x128) hz]

end Cert.KernelIdeal.Attn

end

end
-- ==== Proof.AttnPay.lean ====
module

public import proofs.«01_k».proof.Proof.AttnOut
public import Idealize.ShloMosaic.Lib.Pointwise
public import Idealize.ShloMosaic.Lib.Pipeline.ValueKit
public import Idealize.ShloMosaic.Lib.Pipeline.ReadBack
public import Idealize.ShloMosaic.Lib.VecWindow
public import Idealize.ShloMosaic.Lib.Claim

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

/-- The named word of the mask is `-∞`. -/
theorem mask_bot : (Named.named κ "mask" 0xF149F2CA#32 : Ideal .f32) = (⊥ : EReal) :=
  IdealRules.named_const.ideal_named_scalar _ _ _ _ rfl

/-- The word of `-∞`. -/
theorem ninf : Ideal.ofBits .f32 0xFF800000#32 = (⊥ : EReal) := by simp [Ideal.ofBits, Ideal.ieee]

/-- A maximum folded from `-∞` is a supremum. -/
theorem fold_max {ι : Type} [Fintype ι] (f : ι → EReal) :
    Finset.fold max (Ideal.ofBits .f32 0xFF800000#32 : EReal) f Finset.univ = Finset.univ.sup f := by rw [ninf]; rfl

/-- The first 64 lanes of the queries, the others zero. -/
theorem pay14_at (x : Vec Ideal S256x128 .bf16) (r : Fin 256) (d : Fin 128) :
    k0_pay14 (F := Ideal) x (ix2 r d) = (if d.val < 64 then (x (ix2 r d) : EReal) else 0) := by
  have h : ∀ d : Fin 128, IntOp.cmpi .slt (BitVec.ofNat 32 d.val) 64#32 = if d.val < 64 then 1#1 else 0#1 := by decide +kernel
  pointwise [k0_pay14, h]
  split <;> rfl

/-- The last 64 lanes of the queries, the others zero. -/
theorem pay15_at (x : Vec Ideal S256x128 .bf16) (r : Fin 256) (d : Fin 128) :
    k0_pay15 (F := Ideal) x (ix2 r d) = (if d.val < 64 then 0 else (x (ix2 r d) : EReal)) := by
  have h : ∀ d : Fin 128, IntOp.cmpi .sge (BitVec.ofNat 32 d.val) 64#32 = if d.val < 64 then 0#1 else 1#1 := by decide +kernel
  pointwise [k0_pay15, h]
  split <;> rfl

/-- The running maximum starts at `-∞`. -/
theorem pay16_at (r : Fin 512) : k0_pay16 (F := Ideal) (ix2 r 0) = (⊥ : EReal) := by
  pointwise [k0_pay16]
  exact mask_bot

/-- The running sum starts at zero. -/
theorem pay17_at (r : Fin 512) : k0_pay17 (F := Ideal) (ix2 r 0) = (0 : EReal) := by
  pointwise [k0_pay17]

/-- The running product starts at zero. -/
theorem pay18_at (r : Fin 512) (e : Fin 128) : k0_pay18 (F := Ideal) (ix2 r e) = (0 : EReal) := by
  pointwise [k0_pay18]

/-- A maximum kept as it is. -/
theorem pay19_at (x : FVec Ideal S512x1 .f32) (r : Fin 512) : k0_pay19 (F := Ideal) x (ix2 r 0) = x (ix2 r 0) := by
  pointwise [k0_pay19]

/-- The scores of a key block. -/
theorem pay2_at (kb : Vec Ideal S256x128 .bf16) (qs : Vec Ideal S512x128 .bf16) (r : Fin 512) (k : Fin 256) :
    k0_pay2 (F := Ideal) kb qs (ix2 r k) = (∑ d : Fin 128, (qs (ix2 r d) : EReal) * kb (ix2 k d) : EReal) := by
  pointwise [k0_pay2]

/-- The scores of the last key block, before the mask. -/
theorem pay21_at (kb : Vec Ideal S256x128 .bf16) (qs : Vec Ideal S512x128 .bf16) (r : Fin 512) (k : Fin 256) :
    k0_pay21 (F := Ideal) kb qs (ix2 r k) = (∑ d : Fin 128, (qs (ix2 r d) : EReal) * kb (ix2 k d) : EReal) := by
  pointwise [k0_pay21]

/-- The new running maximum. -/
theorem pay3_at (kb : Vec Ideal S256x128 .bf16) (qs : Vec Ideal S512x128 .bf16) (m : Vec Ideal S512x1 .f32) (r : Fin 512) :
    k0_pay3 (F := Ideal) kb qs m (ix2 r 0)
      = (max (m (ix2 r 0)) (Finset.univ.sup fun k : Fin 256 => (∑ d : Fin 128, (qs (ix2 r d) : EReal) * kb (ix2 k d) : EReal)) : EReal) := by
  pointwise [k0_pay3, pay2_at]
  rw [fold_max]

/-- The remainder of a row number by 256, as the kernel writes it. -/
theorem rem_word : ∀ r : Fin 512,
    Scalar.select (IntOp.andi (IntOp.xori (IntOp.cmpi .slt (IntOp.remsi .vector (BitVec.ofNat 32 r.val) 256#32) 0#32) (Scalar.cmpi .slt 256#32 0#32))
        (IntOp.cmpi .ne (IntOp.remsi .vector (BitVec.ofNat 32 r.val) 256#32) 0#32))
      (IntOp.addi (IntOp.remsi .vector (BitVec.ofNat 32 r.val) 256#32) 256#32) (IntOp.remsi .vector (BitVec.ofNat 32 r.val) 256#32)
      = BitVec.ofNat 32 (r.val % 256) := by decide +kernel

/-- A key is not masked where its position is at most the query's. -/
theorem mask_word (n : ℕ) (hn : n < 32) (r : Fin 512) (k : Fin 256) :
    IntOp.cmpi .sle (IntOp.addi (Scalar.muli (BitVec.ofNat 32 n) 256#32) (BitVec.ofNat 32 k.val))
      (IntOp.addi (Scalar.muli (BitVec.ofNat 32 n) 256#32) (BitVec.ofNat 32 (r.val % 256)))
      = if k.val ≤ r.val % 256 then 1#1 else 0#1 := by
  have e : ∀ x : ℕ, x < 256 → IntOp.addi (Scalar.muli (BitVec.ofNat 32 n) 256#32) (BitVec.ofNat 32 x) = BitVec.ofNat 32 (n * 256 + x) := by
    intro x hx
    apply BitVec.eq_of_toNat_eq
    show ((BitVec.ofNat 32 n * 256#32) + BitVec.ofNat 32 x).toNat = _
    simp only [BitVec.toNat_add, BitVec.toNat_mul, BitVec.toNat_ofNat]
    omega
  have t : ∀ x : ℕ, x < 256 → (BitVec.ofNat 32 (n * 256 + x)).toInt = ((n * 256 + x : ℕ) : ℤ) := by
    intro x hx
    rw [BitVec.toInt_eq_toNat_of_lt (by rw [BitVec.toNat_ofNat]; omega), BitVec.toNat_ofNat, Nat.mod_eq_of_lt (by omega)]
  rw [e _ k.isLt, e _ (by omega)]
  show BitVec.ofBool (BitVec.sle _ _) = _
  rw [BitVec.sle, t _ k.isLt, t _ (by omega)]
  by_cases h : k.val ≤ r.val % 256
  · rw [if_pos h, decide_eq_true (by omega)]; rfl
  · rw [if_neg h, decide_eq_false (by omega)]; rfl

/-- The scores of the last key block: `-∞` where the key is after the query. -/
theorem pay22_at (n : ℕ) (sc : FVec Ideal S512x256 .f32) (hn : n < 32) (r : Fin 512) (k : Fin 256) :
    k0_pay22 (F := Ideal) (BitVec.ofNat 32 n) sc (Scalar.muli (BitVec.ofNat 32 n) 256#32) rowNo 256#32 (ix2 r k)
      = (if k.val ≤ r.val % 256 then (sc (ix2 r k) : EReal) else ⊥) := by
  have h := mask_word n hn r k
  rw [← rem_word r] at h
  pointwise [k0_pay22]
  rw [h, mask_bot]
  split <;> rfl

/-- How much the old sums weigh at the new maximum. -/
theorem pay4_at (kb : Vec Ideal S256x128 .bf16) (qs : Vec Ideal S512x128 .bf16) (m : Vec Ideal S512x1 .f32) (r : Fin 512) :
    k0_pay4 (F := Ideal) kb qs m (ix2 r 0) = Ideal.exp (m (ix2 r 0) - k0_pay3 (F := Ideal) kb qs m (ix2 r 0)) := by
  pointwise [k0_pay4]

/-- The weights of a key block. -/
theorem pay5_at (kb : Vec Ideal S256x128 .bf16) (qs : Vec Ideal S512x128 .bf16) (m : Vec Ideal S512x1 .f32) (r : Fin 512) (k : Fin 256) :
    k0_pay5 (F := Ideal) kb qs m (ix2 r k) = Ideal.exp (k0_pay2 (F := Ideal) kb qs (ix2 r k) - k0_pay3 (F := Ideal) kb qs m (ix2 r 0)) := by
  pointwise [k0_pay5]

/-- The new running sum. -/
theorem pay6_at (kb : Vec Ideal S256x128 .bf16) (qs : Vec Ideal S512x128 .bf16) (m l : Vec Ideal S512x1 .f32) (r : Fin 512) :
    k0_pay6 (F := Ideal) kb qs m l (ix2 r 0) = (k0_pay4 (F := Ideal) kb qs m (ix2 r 0) * l (ix2 r 0) + ∑ k : Fin 256, k0_pay5 (F := Ideal) kb qs m (ix2 r k) : EReal) := by
  pointwise [k0_pay6]

/-- The new running product. -/
theorem pay7_at (kb vb : Vec Ideal S256x128 .bf16) (qs : Vec Ideal S512x128 .bf16) (m : Vec Ideal S512x1 .f32) (a : Vec Ideal S512x128 .f32) (r : Fin 512) (e : Fin 128) :
    k0_pay7 (F := Ideal) kb vb qs m a (ix2 r e) = (k0_pay4 (F := Ideal) kb qs m (ix2 r 0) * a (ix2 r e) + ∑ k : Fin 256, k0_pay5 (F := Ideal) kb qs m (ix2 r k) * vb (ix2 k e) : EReal) := by
  pointwise [k0_pay7]

/-- The maximum after the masked block. -/
theorem pay23_at (n : ℕ) (sc : FVec Ideal S512x256 .f32) (m : Vec Ideal S512x1 .f32) (r : Fin 512) :
    k0_pay23 (F := Ideal) (BitVec.ofNat 32 n) sc (Scalar.muli (BitVec.ofNat 32 n) 256#32) rowNo 256#32 m (ix2 r 0)
      = (max (m (ix2 r 0)) (Finset.univ.sup fun k : Fin 256 => (k0_pay22 (F := Ideal) (BitVec.ofNat 32 n) sc (Scalar.muli (BitVec.ofNat 32 n) 256#32) rowNo 256#32 (ix2 r k) : EReal)) : EReal) := by
  pointwise [k0_pay23]
  rw [fold_max]

/-- How much the sums so far weigh at the maximum after the masked block. -/
theorem pay24_at (n : ℕ) (sc : FVec Ideal S512x256 .f32) (m : Vec Ideal S512x1 .f32) (r : Fin 512) :
    k0_pay24 (F := Ideal) (BitVec.ofNat 32 n) sc (Scalar.muli (BitVec.ofNat 32 n) 256#32) rowNo 256#32 m (ix2 r 0) = Ideal.exp (m (ix2 r 0) - k0_pay23 (F := Ideal) (BitVec.ofNat 32 n) sc (Scalar.muli (BitVec.ofNat 32 n) 256#32) rowNo 256#32 m (ix2 r 0)) := by
  pointwise [k0_pay24]

/-- The weights of the masked block. -/
theorem pay25_at (n : ℕ) (sc : FVec Ideal S512x256 .f32) (m : Vec Ideal S512x1 .f32) (r : Fin 512) (k : Fin 256) :
    k0_pay25 (F := Ideal) (BitVec.ofNat 32 n) sc (Scalar.muli (BitVec.ofNat 32 n) 256#32) rowNo 256#32 m (ix2 r k)
      = Ideal.exp (k0_pay22 (F := Ideal) (BitVec.ofNat 32 n) sc (Scalar.muli (BitVec.ofNat 32 n) 256#32) rowNo 256#32 (ix2 r k) - k0_pay23 (F := Ideal) (BitVec.ofNat 32 n) sc (Scalar.muli (BitVec.ofNat 32 n) 256#32) rowNo 256#32 m (ix2 r 0)) := by
  pointwise [k0_pay25]

/-- The sum after the masked block. -/
theorem pay26_at (n : ℕ) (sc : FVec Ideal S512x256 .f32) (m l : Vec Ideal S512x1 .f32) (r : Fin 512) :
    k0_pay26 (F := Ideal) (BitVec.ofNat 32 n) sc (Scalar.muli (BitVec.ofNat 32 n) 256#32) rowNo 256#32 m l (ix2 r 0)
      = (k0_pay24 (F := Ideal) (BitVec.ofNat 32 n) sc (Scalar.muli (BitVec.ofNat 32 n) 256#32) rowNo 256#32 m (ix2 r 0) * l (ix2 r 0) + ∑ k : Fin 256, k0_pay25 (F := Ideal) (BitVec.ofNat 32 n) sc (Scalar.muli (BitVec.ofNat 32 n) 256#32) rowNo 256#32 m (ix2 r k) : EReal) := by
  pointwise [k0_pay26]

/-- The product after the masked block. -/
theorem pay29_at (n : ℕ) (sc : FVec Ideal S512x256 .f32) (m : Vec Ideal S512x1 .f32) (a : Vec Ideal S512x128 .f32) (vb : Vec Ideal S256x128 .bf16) (r : Fin 512) (e : Fin 128) :
    k0_pay29 (F := Ideal) vb (k0_pay27 (F := Ideal) (BitVec.ofNat 32 n) sc (Scalar.muli (BitVec.ofNat 32 n) 256#32) rowNo 256#32 m a) (k0_pay28 (F := Ideal) (BitVec.ofNat 32 n) sc (Scalar.muli (BitVec.ofNat 32 n) 256#32) rowNo 256#32 m) (ix2 r e)
      = (k0_pay24 (F := Ideal) (BitVec.ofNat 32 n) sc (Scalar.muli (BitVec.ofNat 32 n) 256#32) rowNo 256#32 m (ix2 r 0) * a (ix2 r e)
          + ∑ k : Fin 256, k0_pay25 (F := Ideal) (BitVec.ofNat 32 n) sc (Scalar.muli (BitVec.ofNat 32 n) 256#32) rowNo 256#32 m (ix2 r k) * vb (ix2 k e) : EReal) := by
  pointwise [k0_pay29, k0_pay27, k0_pay28]

/-- The weight of the second map, from the rows of the lambda block. -/
def lamOf (x3 : Vec Ideal S8x128 .f32) : EReal :=
  Ideal.exp (∑ d : Fin 128, x3 (ix2 0 d) * x3 (ix2 1 d)) - Ideal.exp (∑ d : Fin 128, x3 (ix2 2 d) * x3 (ix2 3 d)) + Ideal.ofBits .f32 0x3EB60549#32

/-- The difference of the two normalised products. -/
theorem pay31_at (x3 : Vec Ideal S8x128 .f32) (a0 a1 : Vec Ideal S256x128 .f32) (l0 l1 : Vec Ideal S256x1 .f32) (r : Fin 256) (e : Fin 128) :
    k0_pay31 (F := Ideal) x3 a0 l0 a1 l1 (ix2 r e)
      = (Ideal.div (a0 (ix2 r e)) (l0 (ix2 r 0)) - lamOf x3 * Ideal.div (a1 (ix2 r e)) (l1 (ix2 r 0)) : EReal) := by
  pointwise [k0_pay31, lamOf]

/-- The gains as they are. -/
theorem pay32_at (g : Vec Ideal S1x128 .f32) (e : Fin 128) : k0_pay32 (F := Ideal) g (ix2 0 e) = g (ix2 0 e) := by
  pointwise [k0_pay32]

/-- The normalised row. -/
theorem pay1_at (y : FVec Ideal S256x128 .f32) (g : FVec Ideal S1x128 .f32) (r : Fin 256) (e : Fin 128) :
    k0_pay1 (F := Ideal) y g (ix2 r e)
      = ((y (ix2 r e) * Ideal.rsqrt (Ideal.div (∑ d : Fin 128, y (ix2 r d) * y (ix2 r d)) (Ideal.ofBits .f32 0x43000000#32) + Ideal.ofBits .f32 0x358637BD#32))
          * g (ix2 0 e) * Ideal.ofBits .f32 0x3F24FD5C#32 : EReal) := by
  pointwise [k0_pay1]

end Cert.KernelIdeal.Attn

end

end
-- ==== Proof.AttnSoft.lean ====
module

public import proofs.«01_k».proof.Proof.AttnPay
public import proofs.«01_k».proof.Proof.Online
public import Idealize.ShloMosaic.Lib.Pointwise
public import Idealize.ShloMosaic.Lib.Pipeline.ValueKit
public import Idealize.ShloMosaic.Lib.Pipeline.ReadBack
public import Idealize.ShloMosaic.Lib.VecWindow
public import Idealize.ShloMosaic.Lib.Claim

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

open Cert.Online

variable (qs : Vec Ideal S512x128 .bf16) (x1 x2 : Vec Ideal S8192x128 .bf16)

/-- The scores of a stacked query row, by key block. -/
def sc (r : Fin 512) (n : ℕ) (k : Fin 256) : EReal := ∑ d : Fin 128, (qs (ix2 r d) : EReal) * rowsAt x1 n (ix2 k d)

/-- The values of a column, by key block. -/
def vl (e : Fin 128) (n : ℕ) (k : Fin 256) : EReal := rowsAt x2 n (ix2 k e)

/-- The running maximum. -/
theorem st_M (r : Fin 512) : ∀ n, ((st qs x1 x2 n).1 (ix2 r 0) : EReal) = M (sc qs x1 r) n
  | 0 => pay16_at r
  | n + 1 => by
    show (k0_pay19 (F := Ideal) (k0_pay3 (F := Ideal) (rowsAt x1 n) qs (st qs x1 x2 n).1) (ix2 r 0) : EReal) = _
    rw [pay19_at, pay3_at, st_M r n]
    rfl

/-- The maximum a step takes is the next running maximum. -/
theorem st_M' (r : Fin 512) (n : ℕ) : (k0_pay3 (F := Ideal) (rowsAt x1 n) qs (st qs x1 x2 n).1 (ix2 r 0) : EReal) = M (sc qs x1 r) (n + 1) := by
  rw [pay3_at, st_M qs x1 x2 r n]
  rfl

/-- The running sum. -/
theorem st_L (r : Fin 512) : ∀ n, ((st qs x1 x2 n).2.1 (ix2 r 0) : EReal) = L (sc qs x1 r) n
  | 0 => pay17_at r
  | n + 1 => by
    show (k0_pay6 (F := Ideal) (rowsAt x1 n) qs (st qs x1 x2 n).1 (st qs x1 x2 n).2.1 (ix2 r 0) : EReal) = _
    rw [pay6_at, pay4_at, st_M' qs x1 x2 r n, st_M qs x1 x2 r n, st_L r n, L]
    refine congrArg (_ + ·) (Finset.sum_congr rfl fun k _ => ?_)
    rw [pay5_at, st_M' qs x1 x2 r n, pay2_at]
    rfl

/-- The running product. -/
theorem st_A (r : Fin 512) (e : Fin 128) : ∀ n, ((st qs x1 x2 n).2.2 (ix2 r e) : EReal) = A (sc qs x1 r) (vl x2 e) n
  | 0 => pay18_at r e
  | n + 1 => by
    show (k0_pay7 (F := Ideal) (rowsAt x1 n) (rowsAt x2 n) qs (st qs x1 x2 n).1 (st qs x1 x2 n).2.2 (ix2 r e) : EReal) = _
    rw [pay7_at, pay4_at, st_M' qs x1 x2 r n, st_M qs x1 x2 r n, st_A r e n, A]
    refine congrArg (_ + ·) (Finset.sum_congr rfl fun k _ => ?_)
    rw [pay5_at, st_M' qs x1 x2 r n, pay2_at]
    rfl

/-- The scores of a stacked query row of block `i` against all keys: `-∞` where the key is after the query. -/
def msk (i : ℕ) (r : Fin 512) (k : ℕ) : EReal :=
  if k ≤ i * 256 + r.val % 256 then sc qs x1 r (k / 256) ⟨k % 256, Nat.mod_lt _ (by decide)⟩ else ⊥

/-- The values of a column, by key. -/
def vk (e : Fin 128) (k : ℕ) : EReal := vl x2 e (k / 256) ⟨k % 256, Nat.mod_lt _ (by decide)⟩

theorem msk_block (i : ℕ) (r : Fin 512) (b : ℕ) (k : Fin 256) :
    msk qs x1 i r (b * 256 + k.val) = if b * 256 + k.val ≤ i * 256 + r.val % 256 then sc qs x1 r b k else ⊥ := by
  have h := k.isLt
  have hb : (b * 256 + k.val) / 256 = b := by omega
  have hk : (⟨(b * 256 + k.val) % 256, Nat.mod_lt _ (by decide)⟩ : Fin 256) = k := Fin.ext (by show (b * 256 + k.val) % 256 = k.val; omega)
  unfold msk
  rw [hk, hb]

theorem vk_block (e : Fin 128) : (fun b (k : Fin 256) => vk x2 e (b * 256 + k.val)) = vl x2 e := by
  funext b k
  have h := k.isLt
  have hb : (b * 256 + k.val) / 256 = b := by omega
  have hk : (⟨(b * 256 + k.val) % 256, Nat.mod_lt _ (by decide)⟩ : Fin 256) = k := Fin.ext (by show (b * 256 + k.val) % 256 = k.val; omega)
  unfold vk
  rw [hk, hb]

/-- Before the query's own block no key is masked. -/
theorem msk_lt {i : ℕ} (r : Fin 512) {b : ℕ} (h : b < i) :
    (fun k : Fin 256 => msk qs x1 i r (b * 256 + k.val)) = sc qs x1 r b := by
  funext k
  have := k.isLt
  rw [msk_block, if_pos (by omega)]

/-- Running quantities that agree block by block agree. -/
theorem M_congr {κ : Type} [Fintype κ] {s t : ℕ → κ → EReal} : ∀ {n : ℕ}, (∀ b, b < n → s b = t b) → M s n = M t n
  | 0, _ => rfl
  | n + 1, h => by rw [Online.M, Online.M, M_congr fun b hb => h b (Nat.lt_succ_of_lt hb), h n (Nat.lt_succ_self n)]

theorem L_congr {κ : Type} [Fintype κ] {s t : ℕ → κ → EReal} : ∀ {n : ℕ}, (∀ b, b < n → s b = t b) → L s n = L t n
  | 0, _ => rfl
  | n + 1, h => by
    rw [L, L, L_congr fun b hb => h b (Nat.lt_succ_of_lt hb), M_congr h, M_congr fun b hb => h b (Nat.lt_succ_of_lt hb), h n (Nat.lt_succ_self n)]

theorem A_congr {κ : Type} [Fintype κ] {s t v : ℕ → κ → EReal} : ∀ {n : ℕ}, (∀ b, b < n → s b = t b) → A s v n = A t v n
  | 0, _ => rfl
  | n + 1, h => by
    rw [A, A, A_congr fun b hb => h b (Nat.lt_succ_of_lt hb), M_congr h, M_congr fun b hb => h b (Nat.lt_succ_of_lt hb), h n (Nat.lt_succ_self n)]

/-- Keys of later blocks are masked. -/
theorem msk_after (i : ℕ) (r : Fin 512) (k : ℕ) (h : (i + 1) * 256 ≤ k) : msk qs x1 i r k = ⊥ := by
  unfold msk
  rw [if_neg (by omega)]

/-- The masked scores as the kernel forms them. -/
theorem last_scores (i : ℕ) (hi : i < 32) (r : Fin 512) (k : Fin 256) :
    (k0_pay22 (F := Ideal) (BitVec.ofNat 32 i) (k0_pay21 (F := Ideal) (rowsAt x1 i) qs) (Scalar.muli (BitVec.ofNat 32 i) 256#32) rowNo 256#32 (ix2 r k) : EReal)
      = msk qs x1 i r (i * 256 + k.val) := by
  rw [pay22_at _ _ hi, msk_block, pay21_at]
  by_cases h : k.val ≤ r.val % 256
  · rw [if_pos h, if_pos (by omega)]; rfl
  · rw [if_neg h, if_neg (by omega)]

/-- The maximum after the masked block. -/
theorem last_M (i : ℕ) (hi : i < 32) (r : Fin 512) :
    (k0_pay23 (F := Ideal) (BitVec.ofNat 32 i) (k0_pay21 (F := Ideal) (rowsAt x1 i) qs) (Scalar.muli (BitVec.ofNat 32 i) 256#32) rowNo 256#32 (st qs x1 x2 i).1 (ix2 r 0) : EReal)
      = M (fun b (k : Fin 256) => msk qs x1 i r (b * 256 + k.val)) (i + 1) := by
  rw [pay23_at, st_M, Online.M]
  refine congrArg₂ max (M_congr fun b hb => (msk_lt qs x1 r hb).symm) ?_
  exact congrArg _ (funext fun k => last_scores qs x1 i hi r k)

/-- The sum after the masked block is the sum of the weights of all keys. -/
theorem lastL_at (i : ℕ) (hi : i < 32) (r : Fin 512) :
    (lastL i qs x1 x2 (ix2 r 0) : EReal) = ∑ k : Fin 8192, wt (msk qs x1 i r) k.val := by
  rw [← L_all (msk qs x1 i r) (n := i + 1) hi (msk_after qs x1 i r)]
  unfold lastL
  rw [pay26_at, pay24_at, last_M qs x1 x2 i hi r, st_L, st_M, L]
  refine congrArg₂ (· + ·) (congrArg₂ (· * ·) ?_ (L_congr fun b hb => (msk_lt qs x1 r hb).symm)) (Finset.sum_congr rfl fun k _ => ?_)
  · rw [M_congr fun b hb => (msk_lt qs x1 r hb).symm]
  · rw [pay25_at, last_M qs x1 x2 i hi r, last_scores qs x1 i hi r k]

/-- The product after the masked block is the weighted sum of the values of all keys. -/
theorem lastA_at (i : ℕ) (hi : i < 32) (r : Fin 512) (e : Fin 128) :
    (lastA i qs x1 x2 (ix2 r e) : EReal) = ∑ k : Fin 8192, wt (msk qs x1 i r) k.val * vk x2 e k.val := by
  rw [← A_all (msk qs x1 i r) (vk x2 e) (n := i + 1) hi (msk_after qs x1 i r), vk_block]
  unfold lastA
  rw [pay29_at, pay24_at, last_M qs x1 x2 i hi r, st_A, st_M, A]
  refine congrArg₂ (· + ·) (congrArg₂ (· * ·) ?_ (A_congr fun b hb => (msk_lt qs x1 r hb).symm)) (Finset.sum_congr rfl fun k _ => ?_)
  · rw [M_congr fun b hb => (msk_lt qs x1 r hb).symm]
  · rw [pay25_at, last_M qs x1 x2 i hi r, last_scores qs x1 i hi r k]
    rfl

end Cert.KernelIdeal.Attn

end

end
-- ==== Proof.AttnMatch.lean ====
module

public import proofs.«01_k».proof.Proof.AttnSoft
public import proofs.«01_k».proof.Proof.AttnRef
public import Idealize.ShloMosaic.Lib.Pointwise
public import Idealize.ShloMosaic.Lib.Pipeline.ValueKit
public import Idealize.ShloMosaic.Lib.Pipeline.ReadBack
public import Idealize.ShloMosaic.Lib.VecWindow
public import Idealize.ShloMosaic.Lib.Claim

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

open Cert.Online Cert.ReferenceIdeal.Attn

/-- Position `r` of query block `i`. -/
def pos (i : Fin 32) (r : Fin 256) : Fin 8192 := ⟨i.val * 256 + r.val, by have := i.isLt; have := r.isLt; omega⟩

/-- Row `r` of the first map's half of the stacked rows. -/
def up (r : Fin 256) : Fin 512 := ⟨r.val, by have := r.isLt; omega⟩

/-- Row `r` of the second map's half of the stacked rows. -/
def dn (r : Fin 256) : Fin 512 := ⟨256 + r.val, by have := r.isLt; omega⟩

/-- The first half of the stacked rows holds the first 64 lanes. -/
theorem stacked_up (x0 : Vec Ideal S256x128 .bf16) (r : Fin 256) (d : Fin 128) :
    (stacked x0 (ix2 (up r) d) : EReal) = if d.val < 64 then (x0 (ix2 r d) : EReal) else 0 := by
  rw [← pay14_at]
  unfold stacked
  have key := View.canon_cons_emb (Val := Elt Ideal) (s := S512x128) (e := .bf16) (Rect.unit (s := S512x128) ![0, 0] S256x128.size inb_S512x128_S256x128_0_0) (k0_pay14 (F := Ideal) x0) [] (ix2 r d)
  have hemb : (Rect.unit (s := S512x128) ![0, 0] S256x128.size inb_S512x128_S256x128_0_0).emb (ix2 r d) = ix2 (up r) d := by
    funext a
    apply Fin.ext
    match a with
    | ⟨0, _⟩ => show 0 + 1 * r.val = r.val; omega
    | ⟨1, _⟩ => show 0 + 1 * d.val = d.val; omega
  rw [hemb] at key
  rw [View.canon_cons_of_not_mem]
  · exact key
  · refine Rect.not_mem_set_of_axis _ _ (0 : Fin 2) 256 256 rfl rfl rfl (Or.inl ?_)
    show r.val < 256
    exact r.isLt

/-- The second half of the stacked rows holds the last 64 lanes. -/
theorem stacked_dn (x0 : Vec Ideal S256x128 .bf16) (r : Fin 256) (d : Fin 128) :
    (stacked x0 (ix2 (dn r) d) : EReal) = if d.val < 64 then 0 else (x0 (ix2 r d) : EReal) := by
  rw [← pay15_at]
  unfold stacked
  have key := View.canon_cons_emb (Val := Elt Ideal) (s := S512x128) (e := .bf16) (Rect.unit (s := S512x128) ![256, 0] S256x128.size inb_S512x128_S256x128_256_0) (k0_pay15 (F := Ideal) x0)
    [⟨Rect.unit (s := S512x128) ![0, 0] S256x128.size inb_S512x128_S256x128_0_0, k0_pay14 (F := Ideal) x0⟩] (ix2 r d)
  have hemb : (Rect.unit (s := S512x128) ![256, 0] S256x128.size inb_S512x128_S256x128_256_0).emb (ix2 r d) = ix2 (dn r) d := by
    funext a
    apply Fin.ext
    match a with
    | ⟨0, _⟩ => show 256 + 1 * r.val = 256 + r.val; omega
    | ⟨1, _⟩ => show 0 + 1 * d.val = d.val; omega
  rw [hemb] at key
  exact key

/-- A sum over 128 lanes is the sum over the first 64 and the last 64. -/
theorem sum_lanes (f : Fin 128 → EReal) :
    ∑ d : Fin 128, f d = ∑ d : Fin 64, f ⟨d.val, by omega⟩ + ∑ d : Fin 64, f ⟨64 + d.val, by omega⟩ :=
  Fin.sum_univ_add (M := EReal) (a := 64) (b := 64) f

section

variable (Q K V : FVec Ideal S32768x768 .bf16) (x0 : Vec Ideal S256x128 .bf16) (x1 x2 : Vec Ideal S8192x128 .bf16)
variable (b : Fin 4) (h : Fin 6) (i : Fin 32)
variable (hx0 : ∀ r d, (x0 (ix2 r d) : EReal) = Q (ix2 (row b (pos i r)) (vlane h d)))
variable (hx1 : ∀ k d, (x1 (ix2 k d) : EReal) = K (ix2 (row b k) (vlane h d)))
variable (hx2 : ∀ k d, (x2 (ix2 k d) : EReal) = V (ix2 (row b k) (vlane h d)))

/-- Reading a block row of the keys or values. -/
theorem rowsAt_key (x : Vec Ideal S8192x128 .bf16) (k : Fin 8192) (d : Fin 128) :
    (rowsAt x (k.val / 256) (ix2 (⟨k.val % 256, Nat.mod_lt _ (by decide)⟩ : Fin 256) d) : EReal) = x (ix2 k d) := by
  have hk := k.isLt
  unfold rowsAt
  refine congrArg x ?_
  funext a
  apply Fin.ext
  match a with
  | ⟨0, _⟩ => show (k.val / 256 * 256 + k.val % 256) % 8192 = k.val; omega
  | ⟨1, _⟩ => rfl

include hx0 hx1 in
/-- The masked scores of the first map are the reference's. -/
theorem msk_up (r : Fin 256) (k : Fin 8192) :
    msk (stacked x0) x1 i.val (up r) k.val = refS Q K (ix4 b ⟨h.val * 2, by omega⟩ (pos i r) k) := by
  have hr := r.isLt
  rw [refS_at]
  unfold msk
  have hc : (k.val ≤ i.val * 256 + (up r).val % 256) ↔ k.val ≤ (pos i r).val := by
    show k.val ≤ i.val * 256 + r.val % 256 ↔ k.val ≤ i.val * 256 + r.val
    rw [Nat.mod_eq_of_lt hr]
  by_cases hk : k.val ≤ (pos i r).val
  · rw [if_pos (hc.2 hk), if_pos hk]
    unfold sc
    rw [sum_lanes]
    simp only [rowsAt_key, stacked_up, hx0, hx1]
    have z : ∑ d : Fin 64, (if 64 + d.val < 64 then (Q (ix2 (row b (pos i r)) (vlane h ⟨64 + d.val, by omega⟩)) : EReal) else 0) * (K (ix2 (row b k) (vlane h ⟨64 + d.val, by omega⟩)) : EReal) = 0 :=
      Finset.sum_eq_zero fun d _ => by rw [if_neg (by omega), zero_mul]
    rw [z, add_zero]
    refine Finset.sum_congr rfl fun d _ => ?_
    have e : vlane h ⟨d.val, by omega⟩ = lane ⟨h.val * 2, by omega⟩ d := Fin.ext (by simp only [vlane, lane]; omega)
    rw [if_pos d.isLt, e]
  · rw [if_neg (fun hh => hk (hc.1 hh)), if_neg hk]

include hx0 hx1 in
/-- The masked scores of the second map are the reference's. -/
theorem msk_dn (r : Fin 256) (k : Fin 8192) :
    msk (stacked x0) x1 i.val (dn r) k.val = refS Q K (ix4 b ⟨h.val * 2 + 1, by omega⟩ (pos i r) k) := by
  have hr := r.isLt
  rw [refS_at]
  unfold msk
  have hc : (k.val ≤ i.val * 256 + (dn r).val % 256) ↔ k.val ≤ (pos i r).val := by
    show k.val ≤ i.val * 256 + (256 + r.val) % 256 ↔ k.val ≤ i.val * 256 + r.val
    rw [Nat.add_mod_left, Nat.mod_eq_of_lt hr]
  by_cases hk : k.val ≤ (pos i r).val
  · rw [if_pos (hc.2 hk), if_pos hk]
    unfold sc
    rw [sum_lanes]
    simp only [rowsAt_key, stacked_dn, hx0, hx1]
    have z : ∑ d : Fin 64, (if d.val < 64 then 0 else (Q (ix2 (row b (pos i r)) (vlane h ⟨d.val, by omega⟩)) : EReal)) * (K (ix2 (row b k) (vlane h ⟨d.val, by omega⟩)) : EReal) = 0 :=
      Finset.sum_eq_zero fun d _ => by rw [if_pos d.isLt, zero_mul]
    rw [z, zero_add]
    refine Finset.sum_congr rfl fun d _ => ?_
    have e : vlane h ⟨64 + d.val, by omega⟩ = lane ⟨h.val * 2 + 1, by omega⟩ d := Fin.ext (by simp only [vlane, lane]; omega)
    rw [if_neg (by omega), e]
  · rw [if_neg (fun hh => hk (hc.1 hh)), if_neg hk]

include hx2 in
/-- The values are the reference's. -/
theorem vk_eq (e : Fin 128) (k : Fin 8192) : vk x2 e k.val = V (ix2 (row b k) (vlane h e)) := by
  unfold vk vl
  rw [rowsAt_key, hx2]

/-- A softmax weight of the reference from scores that agree with it. -/
theorem refP_wt (hh : Fin 12) (p : Fin 8192) (f : ℕ → EReal) (hf : ∀ k : Fin 8192, f k.val = refS Q K (ix4 b hh p k)) (k : Fin 8192) :
    (refP Q K (ix4 b hh p k) : EReal) = Ideal.div (wt f k.val) (∑ k : Fin 8192, wt f k.val) := by
  have e : ∀ k : Fin 8192, (refE Q K (ix4 b hh p k) : EReal) = wt f k.val := by
    intro k
    rw [refE_at, refM_at]
    unfold wt
    simp only [hf]
  rw [refP_at]
  simp only [e]

/-- Finite products have finite sums. -/
theorem dot_real {n : ℕ} (f g : Fin n → EReal) (hf : ∀ d, ∃ r : ℝ, f d = (r : EReal)) (hg : ∀ d, ∃ r : ℝ, g d = (r : EReal)) :
    ∃ r : ℝ, ∑ d, f d * g d = (r : EReal) := by
  choose a ha using hf
  choose c hc using hg
  refine ⟨∑ d, a d * c d, ?_⟩
  rw [← coe_sum]
  exact Finset.sum_congr rfl fun d _ => by rw [ha, hc, EReal.coe_mul]

variable (hQ : ∀ y, ∃ r : ℝ, (Q y : EReal) = (r : EReal)) (hK : ∀ y, ∃ r : ℝ, (K y : EReal) = (r : EReal))
variable (hV : ∀ y, ∃ r : ℝ, (V y : EReal) = (r : EReal))

include hQ hK in
/-- No score is `+∞`. -/
theorem refS_ne_top (hh : Fin 12) (p k : Fin 8192) : (refS Q K (ix4 b hh p k) : EReal) ≠ ⊤ := by
  rw [refS_at]
  split
  · obtain ⟨r, hr⟩ := dot_real (fun d : Fin 64 => (Q (ix2 (row b p) (lane hh d)) : EReal)) (fun d => (K (ix2 (row b k) (lane hh d)) : EReal)) (fun d => hQ _) (fun d => hK _)
    rw [hr]
    exact EReal.coe_ne_top r
  · exact bot_ne_top

include hQ hK in
/-- The score of the query's own position is finite. -/
theorem refS_diag (hh : Fin 12) (p : Fin 8192) : (refS Q K (ix4 b hh p p) : EReal) ≠ ⊥ := by
  rw [refS_at, if_pos le_rfl]
  obtain ⟨r, hr⟩ := dot_real (fun d : Fin 64 => (Q (ix2 (row b p) (lane hh d)) : EReal)) (fun d => (K (ix2 (row b p) (lane hh d)) : EReal)) (fun d => hQ _) (fun d => hK _)
  rw [hr]
  exact EReal.coe_ne_bot r

variable (lq1 lk1 lq2 lk2 : FVec Ideal S1x64 .f32) (g : FVec Ideal S1x128 .f32) (x3 : Vec Ideal S8x128 .f32) (x4 : Vec Ideal S1x128 .f32)
variable (hlam : lamOf x3 = refLam lq1 lk1 lq2 lk2 ix0) (hreal : ∃ r : ℝ, (refLam lq1 lk1 lq2 lk2 ix0 : EReal) = (r : EReal))
variable (hx4 : ∀ e, (x4 (ix2 0 e) : EReal) = g (ix2 0 e))

include hx0 hx1 hx2 hQ hK hV hlam hreal in
/-- The difference of the two normalised products is the reference's output before the norm. -/
theorem diff_eq (r : Fin 256) (e : Fin 128) :
    (k0_pay31 (F := Ideal) x3 (top (lastA i.val (stacked x0) x1 x2)) (topL (lastL i.val (stacked x0) x1 x2))
        (bot (lastA i.val (stacked x0) x1 x2)) (botL (lastL i.val (stacked x0) x1 x2)) (ix2 r e) : EReal)
      = refO Q K V lq1 lk1 lq2 lk2 (ix4 b (pos i r) h e) := by
  obtain ⟨l, hl⟩ := hreal
  have a0 : (top (lastA i.val (stacked x0) x1 x2) (ix2 r e) : EReal) = ∑ k : Fin 8192, wt (msk (stacked x0) x1 i.val (up r)) k.val * vk x2 e k.val :=
    lastA_at (stacked x0) x1 x2 i.val i.isLt (up r) e
  have a1 : (bot (lastA i.val (stacked x0) x1 x2) (ix2 r e) : EReal) = ∑ k : Fin 8192, wt (msk (stacked x0) x1 i.val (dn r)) k.val * vk x2 e k.val :=
    lastA_at (stacked x0) x1 x2 i.val i.isLt (dn r) e
  have l0 : (topL (lastL i.val (stacked x0) x1 x2) (ix2 r 0) : EReal) = ∑ k : Fin 8192, wt (msk (stacked x0) x1 i.val (up r)) k.val :=
    lastL_at (stacked x0) x1 x2 i.val i.isLt (up r)
  have l1 : (botL (lastL i.val (stacked x0) x1 x2) (ix2 r 0) : EReal) = ∑ k : Fin 8192, wt (msk (stacked x0) x1 i.val (dn r)) k.val :=
    lastL_at (stacked x0) x1 x2 i.val i.isLt (dn r)
  have s0 := msk_up Q K x0 x1 b h i hx0 hx1 r
  have s1 := msk_dn Q K x0 x1 b h i hx0 hx1 r
  rw [pay31_at, a0, a1, l0, l1, hlam, hl, refO_at,
    combine (msk (stacked x0) x1 i.val (up r)) (msk (stacked x0) x1 i.val (dn r)) (vk x2 e) l
      (fun k => by rw [s0]; exact refS_ne_top Q K b hQ hK _ _ _) (fun k => by rw [s1]; exact refS_ne_top Q K b hQ hK _ _ _) (pos i r)
      (by rw [s0]; exact refS_diag Q K b hQ hK _ _) (by rw [s1]; exact refS_diag Q K b hQ hK _ _)
      (fun k => by rw [vk_eq V x2 b h hx2]; exact hV _)]
  refine Finset.sum_congr rfl fun k _ => ?_
  rw [refA_at, hl, refP_wt Q K b _ _ _ s0, refP_wt Q K b _ _ _ s1, vk_eq V x2 b h hx2]

include hx0 hx1 hx2 hQ hK hV hlam hreal hx4 in
/-- One element of a block of the kernel's output is the reference's. -/
theorem block_eq (r : Fin 256) (e : Fin 128) :
    (k0_pay1 (F := Ideal) (k0_pay31 (F := Ideal) x3 (top (lastA i.val (stacked x0) x1 x2)) (topL (lastL i.val (stacked x0) x1 x2))
        (bot (lastA i.val (stacked x0) x1 x2)) (botL (lastL i.val (stacked x0) x1 x2))) (k0_pay32 (F := Ideal) x4) (ix2 r e) : EReal)
      = REF Q K V lq1 lk1 lq2 lk2 g (ix2 (row b (pos i r)) (vlane h e)) := by
  have d := diff_eq Q K V x0 x1 x2 b h i hx0 hx1 hx2 hQ hK hV lq1 lk1 lq2 lk2 x3 hlam hreal r
  rw [pay1_at, REF_at, pay32_at, hx4]
  simp only [d]

end

end Cert.KernelIdeal.Attn

end

end
-- ==== Proof.AttnValue.lean ====
module

public import proofs.«01_k».proof.Proof.AttnOut
public import proofs.«01_k».proof.Proof.AttnMatch
public import Idealize.ShloMosaic.Lib.Pointwise
public import Idealize.ShloMosaic.Lib.Pipeline.ValueKit
public import Idealize.ShloMosaic.Lib.Pipeline.ReadBack
public import Idealize.ShloMosaic.Lib.VecWindow
public import Idealize.ShloMosaic.Lib.Claim
public import Idealize.ShloMosaic.Lib.StableHlo.RunRead

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

open Cert.Online Cert.ReferenceIdeal.Attn

variable (m : (ℓ : Loc nD τ sig) → Buf (Elt Ideal) ℓ)

/-- Where each window's block lies at each point. -/
theorem idx : ∀ t : Fin cfg0.N, win0_0.index t = ![t.val / 192 * 32 + t.val % 32, t.val / 32 % 6] ∧ win0_1.index t = ![t.val / 192, t.val / 32 % 6]
    ∧ win0_2.index t = ![t.val / 192, t.val / 32 % 6] ∧ win0_3.index t = ![0, 0] ∧ win0_4.index t = ![0, 0]
    ∧ win0_5.index t = ![t.val / 192 * 32 + t.val % 32, t.val / 32 % 6] :=
  (by decide +kernel : ∀ t : Fin grid0.N, _)

/-- The query block of each point. -/
theorem coord2 : ∀ t : Fin cfg0.N, (grid0.coords t 2).val = t.val % 32 :=
  (by decide +kernel : ∀ t : Fin grid0.N, (grid0.coords t 2).val = t.val % 32)

/-- The batch of a point. -/
def bOf (t : Fin cfg0.N) : Fin 4 := ⟨t.val / 192, by
  have h := lt_of_lt_of_eq t.isLt (show cfg0.N = 768 from N_0); omega⟩

/-- The head pair of a point. -/
def hOf (t : Fin cfg0.N) : Fin 6 := ⟨t.val / 32 % 6, Nat.mod_lt _ (by decide)⟩

/-- The query block of a point. -/
def iOf (t : Fin cfg0.N) : Fin 32 := ⟨t.val % 32, Nat.mod_lt _ (by decide)⟩

/-- The gain row the region finds. -/
theorem V_g (c : Dev nD) (e : Fin 128) : (V m c main_v11 (ix2 0 e) : EReal) = m ((c : Thread nD τ).loc main_arg7) (ix2 0 e) := by
  simp only [V, hostOps0, hostOps0_1, hostOps0_2, List.flatten_cons, List.flatten_nil, List.append_nil, List.cons_append, List.nil_append]
  entry_read
  pointwise

/-- The lambda parameters, one to a row. -/
def catLam (l0 l1 l2 l3 : FVec Ideal S1x64 .f32) : FVec Ideal S4x64 .f32 :=
  concatenate S4x64 0 [⟨S1x64, broadcastInDim S1x64 ![1] bcast_S64_S1x64_1 (shapeCast S64 l0 shapeCasts_S1x64_S64)⟩,
    ⟨S1x64, broadcastInDim S1x64 ![1] bcast_S64_S1x64_1 (shapeCast S64 l1 shapeCasts_S1x64_S64)⟩,
    ⟨S1x64, broadcastInDim S1x64 ![1] bcast_S64_S1x64_1 (shapeCast S64 l2 shapeCasts_S1x64_S64)⟩,
    ⟨S1x64, broadcastInDim S1x64 ![1] bcast_S64_S1x64_1 (shapeCast S64 l3 shapeCasts_S1x64_S64)⟩] concatenates_S1x64_S1x64_S1x64_S1x64_S4x64_d0

/-- The lambda parameters as the host pads them. -/
def padLam (l0 l1 l2 l3 : FVec Ideal S1x64 .f32) : FVec Ideal S8x128 .f32 :=
  pad S8x128 ![0, 0] ![4, 64] ![0, 0] (catLam l0 l1 l2 l3) (sitofp (F := Ideal) .f32 (constantI S_ 32 0#32)) pads_S4x64_S8x128_040_0640 h_S_

/-- The padding value is zero. -/
theorem pad_zero : (FloatOps.sitofp (F := Ideal) .f32 (0#32) : EReal) = 0 := by
  show (((0#32 : BitVec 32).toInt : ℝ) : EReal) = 0
  simp

/-- The host lines after the padding leave it alone. -/
theorem seg2 (X : Valuation τ sig (Elt Ideal)) : StableHlo.after (hostOps0_2 (F := Ideal)) X (Proc.devRef .tc main_v9) = X (Proc.devRef .tc main_v9) := by
  after_reads_simp

/-- The padding's lines. -/
theorem seg1 (X : Valuation τ sig (Elt Ideal)) : StableHlo.after (hostOps0_1 (F := Ideal)) X (Proc.devRef .tc main_v9)
    = pad S8x128 ![0, 0] ![4, 64] ![0, 0] (X (Proc.devRef .tc main_v8)) (sitofp (F := Ideal) .f32 (X (Proc.devRef .tc main_c))) pads_S4x64_S8x128_040_0640 h_S_ := by
  after_reads_simp
  rfl

/-- The padding value's line. -/
theorem seg0c (X : Valuation τ sig (Elt Ideal)) : StableHlo.after (hostOps0 (F := Ideal)) X (Proc.devRef .tc main_c) = constantI S_ 32 0#32 := by
  after_reads_simp

/-- The stacking's lines. -/
theorem seg0 (X : Valuation τ sig (Elt Ideal)) : StableHlo.after (hostOps0 (F := Ideal)) X (Proc.devRef .tc main_v8)
    = catLam (X (Proc.devRef .tc main_arg3)) (X (Proc.devRef .tc main_arg4)) (X (Proc.devRef .tc main_arg5)) (X (Proc.devRef .tc main_arg6)) := by
  have e0 : StableHlo.upto (hostOps0 (F := Ideal)) X 8 (Proc.devRef .tc main_v4) = broadcastInDim S1x64 ![1] bcast_S64_S1x64_1 (shapeCast S64 (X (Proc.devRef .tc main_arg3)) shapeCasts_S1x64_S64) := by
    after_reads_simp
    rfl
  have e1 : StableHlo.upto (hostOps0 (F := Ideal)) X 8 (Proc.devRef .tc main_v5) = broadcastInDim S1x64 ![1] bcast_S64_S1x64_1 (shapeCast S64 (X (Proc.devRef .tc main_arg4)) shapeCasts_S1x64_S64) := by
    after_reads_simp
    rfl
  have e2 : StableHlo.upto (hostOps0 (F := Ideal)) X 8 (Proc.devRef .tc main_v6) = broadcastInDim S1x64 ![1] bcast_S64_S1x64_1 (shapeCast S64 (X (Proc.devRef .tc main_arg5)) shapeCasts_S1x64_S64) := by
    after_reads_simp
    rfl
  have e3 : StableHlo.upto (hostOps0 (F := Ideal)) X 8 (Proc.devRef .tc main_v7) = broadcastInDim S1x64 ![1] bcast_S64_S1x64_1 (shapeCast S64 (X (Proc.devRef .tc main_arg6)) shapeCasts_S1x64_S64) := by
    after_reads_simp
    rfl
  unfold catLam
  rw [← e0, ← e1, ← e2, ← e3]
  after_reads_simp
  rfl

/-- The padded lambda parameters the region finds. -/
theorem V_lam (c : Dev nD) : V m c main_v9 = padLam (m ((c : Thread nD τ).loc main_arg3)) (m ((c : Thread nD τ).loc main_arg4)) (m ((c : Thread nD τ).loc main_arg5)) (m ((c : Thread nD τ).loc main_arg6)) := by
  have hc := seg0 (fun b => m (c, b))
  have hz := seg0c (fun b => m (c, b))
  have h1 := seg1 (StableHlo.after (hostOps0 (F := Ideal)) (fun b => m (c, b)))
  rw [hc, hz] at h1
  have h2 := seg2 (StableHlo.after (hostOps0_1 (F := Ideal)) (StableHlo.after (hostOps0 (F := Ideal)) (fun b => m (c, b))))
  exact h2.trans h1

/-- Row 0 of the padded lambda parameters. -/
theorem padLam0 (l0 l1 l2 l3 : FVec Ideal S1x64 .f32) (d : Fin 128) : (padLam l0 l1 l2 l3 (ix2 0 d) : EReal)
    = if h : d.val < 64 then (l0 (ix2 0 ⟨d.val, h⟩) : EReal) else 0 := by
  pointwise [padLam, catLam]
  rw [pad_zero]

/-- Row 1 of the padded lambda parameters. -/
theorem padLam1 (l0 l1 l2 l3 : FVec Ideal S1x64 .f32) (d : Fin 128) : (padLam l0 l1 l2 l3 (ix2 1 d) : EReal)
    = if h : d.val < 64 then (l1 (ix2 0 ⟨d.val, h⟩) : EReal) else 0 := by
  pointwise [padLam, catLam]
  rw [pad_zero]

/-- Row 2 of the padded lambda parameters. -/
theorem padLam2 (l0 l1 l2 l3 : FVec Ideal S1x64 .f32) (d : Fin 128) : (padLam l0 l1 l2 l3 (ix2 2 d) : EReal)
    = if h : d.val < 64 then (l2 (ix2 0 ⟨d.val, h⟩) : EReal) else 0 := by
  pointwise [padLam, catLam]
  rw [pad_zero]

/-- Row 3 of the padded lambda parameters. -/
theorem padLam3 (l0 l1 l2 l3 : FVec Ideal S1x64 .f32) (d : Fin 128) : (padLam l0 l1 l2 l3 (ix2 3 d) : EReal)
    = if h : d.val < 64 then (l3 (ix2 0 ⟨d.val, h⟩) : EReal) else 0 := by
  pointwise [padLam, catLam]
  rw [pad_zero]

/-- The queries' block. -/
theorem blk_q (c : Dev nD) (t : Fin cfg0.N) (r : Fin 256) (d : Fin 128) :
    (iblk m c 0 t (ix2 r d) : EReal) = m ((c : Thread nD τ).loc main_arg0) (ix2 (row (bOf t) (pos (iOf t) r)) (vlane (hOf t) d)) := by
  blk_ext [iblk, V, idx t, row, vlane, bOf, pos, iOf, hOf]

/-- The keys' block. -/
theorem blk_k (c : Dev nD) (t : Fin cfg0.N) (k : Fin 8192) (d : Fin 128) :
    (iblk m c 1 t (ix2 k d) : EReal) = m ((c : Thread nD τ).loc main_arg1) (ix2 (row (bOf t) k) (vlane (hOf t) d)) := by
  blk_ext [iblk, V, idx t, row, vlane, bOf, hOf]

/-- The values' block. -/
theorem blk_v (c : Dev nD) (t : Fin cfg0.N) (k : Fin 8192) (d : Fin 128) :
    (iblk m c 2 t (ix2 k d) : EReal) = m ((c : Thread nD τ).loc main_arg2) (ix2 (row (bOf t) k) (vlane (hOf t) d)) := by
  blk_ext [iblk, V, idx t, row, vlane, bOf, hOf]

/-- The lambda parameters' block. -/
theorem blk_lam (c : Dev nD) (t : Fin cfg0.N) (a : Fin 8) (d : Fin 128) : (iblk m c 3 t (ix2 a d) : EReal) = V m c main_v9 (ix2 a d) := by
  blk_ext [iblk, idx t]

/-- The gain's block. -/
theorem blk_g (c : Dev nD) (t : Fin cfg0.N) (e : Fin 128) : (iblk m c 4 t (ix2 0 e) : EReal) = m ((c : Thread nD τ).loc main_arg7) (ix2 0 e) := by
  rw [← V_g m c e]
  blk_ext [iblk, idx t]

/-- A product of rows that are zero beyond lane 64. -/
theorem dot_pad (f g : Fin 64 → EReal) (x y : Fin 128 → EReal) (hx : ∀ d, x d = if h : d.val < 64 then f ⟨d.val, h⟩ else 0)
    (hy : ∀ d, y d = if h : d.val < 64 then g ⟨d.val, h⟩ else 0) : ∑ d, x d * y d = ∑ d, f d * g d := by
  rw [sum_lanes]
  have z : ∑ d : Fin 64, x ⟨64 + d.val, by omega⟩ * y ⟨64 + d.val, by omega⟩ = 0 :=
    Finset.sum_eq_zero fun d _ => by rw [hx, dif_neg (by show ¬ 64 + d.val < 64; omega), zero_mul]
  rw [z, add_zero]
  refine Finset.sum_congr rfl fun d _ => ?_
  rw [hx, hy, dif_pos d.isLt, dif_pos d.isLt]

/-- The kernel's lambda is the reference's. -/
theorem lam_eq (c : Dev nD) (t : Fin cfg0.N) : lamOf (iblk m c 3 t) = refLam (m ((c : Thread nD τ).loc main_arg3)) (m ((c : Thread nD τ).loc main_arg4)) (m ((c : Thread nD τ).loc main_arg5)) (m ((c : Thread nD τ).loc main_arg6)) ix0 := by
  rw [refLam_at]
  unfold lamOf
  rw [dot_pad (fun d : Fin 64 => ((m ((c : Thread nD τ).loc main_arg3)) (ix2 0 d) : EReal)) (fun d : Fin 64 => ((m ((c : Thread nD τ).loc main_arg4)) (ix2 0 d) : EReal)) _ _ (fun d => (blk_lam m c t 0 d).trans ((congrFun (V_lam m c) _).trans (padLam0 _ _ _ _ d))) (fun d => (blk_lam m c t 1 d).trans ((congrFun (V_lam m c) _).trans (padLam1 _ _ _ _ d))),
    dot_pad (fun d : Fin 64 => ((m ((c : Thread nD τ).loc main_arg5)) (ix2 0 d) : EReal)) (fun d : Fin 64 => ((m ((c : Thread nD τ).loc main_arg6)) (ix2 0 d) : EReal)) _ _ (fun d => (blk_lam m c t 2 d).trans ((congrFun (V_lam m c) _).trans (padLam2 _ _ _ _ d))) (fun d => (blk_lam m c t 3 d).trans ((congrFun (V_lam m c) _).trans (padLam3 _ _ _ _ d)))]

/-- With finite parameters lambda is finite. -/
theorem lam_real (lq1 lk1 lq2 lk2 : FVec Ideal S1x64 .f32) (h1 : ∀ y, ∃ r : ℝ, (lq1 y : EReal) = (r : EReal)) (h2 : ∀ y, ∃ r : ℝ, (lk1 y : EReal) = (r : EReal))
    (h3 : ∀ y, ∃ r : ℝ, (lq2 y : EReal) = (r : EReal)) (h4 : ∀ y, ∃ r : ℝ, (lk2 y : EReal) = (r : EReal)) :
    ∃ r : ℝ, (refLam lq1 lk1 lq2 lk2 ix0 : EReal) = (r : EReal) := by
  obtain ⟨a, ha⟩ := dot_real (fun d : Fin 64 => (lq1 (ix2 0 d) : EReal)) (fun d => (lk1 (ix2 0 d) : EReal)) (fun d => h1 _) (fun d => h2 _)
  obtain ⟨b, hb⟩ := dot_real (fun d : Fin 64 => (lq2 (ix2 0 d) : EReal)) (fun d => (lk2 (ix2 0 d) : EReal)) (fun d => h3 _) (fun d => h4 _)
  obtain ⟨k, hk⟩ : ∃ k : ℝ, Ideal.ofBits .f32 0x3EB60549#32 = (k : EReal) := by
    refine ⟨(11928905 : ℝ) / 33554432, ?_⟩
    simp [Ideal.ofBits, Ideal.ieee, -EReal.coe_mul]
    norm_num
  refine ⟨Real.exp a - Real.exp b + k, ?_⟩
  rw [refLam_at, ha, hb, hk]
  norm_cast

/-- The result array after the run is the reference's result, where the arguments are finite. -/
theorem final (c : Dev nD) (hq : ∀ y, ∃ r : ℝ, ((m ((c : Thread nD τ).loc main_arg0)) y : EReal) = (r : EReal)) (hk : ∀ y, ∃ r : ℝ, ((m ((c : Thread nD τ).loc main_arg1)) y : EReal) = (r : EReal))
    (hv : ∀ y, ∃ r : ℝ, ((m ((c : Thread nD τ).loc main_arg2)) y : EReal) = (r : EReal)) (h3 : ∀ y, ∃ r : ℝ, ((m ((c : Thread nD τ).loc main_arg3)) y : EReal) = (r : EReal)) (h4 : ∀ y, ∃ r : ℝ, ((m ((c : Thread nD τ).loc main_arg4)) y : EReal) = (r : EReal))
    (h5 : ∀ y, ∃ r : ℝ, ((m ((c : Thread nD τ).loc main_arg5)) y : EReal) = (r : EReal)) (h6 : ∀ y, ∃ r : ℝ, ((m ((c : Thread nD τ).loc main_arg6)) y : EReal) = (r : EReal)) :
    (dats m 0 c).arrAt 5 cfg0.N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 5 _ (by decide +kernel) fun t hf y => ?_
  blk_simp
  rw [after0_5, eq_ix2 y]
  unfold outsAt0
  rw [out_eq, coord2 t]
  refine (block_eq (m ((c : Thread nD τ).loc main_arg0)) (m ((c : Thread nD τ).loc main_arg1)) (m ((c : Thread nD τ).loc main_arg2)) (iblk m c 0 t) (iblk m c 1 t) (iblk m c 2 t) (bOf t) (hOf t) (iOf t) (blk_q m c t) (blk_k m c t) (blk_v m c t)
    hq hk hv (m ((c : Thread nD τ).loc main_arg3)) (m ((c : Thread nD τ).loc main_arg4)) (m ((c : Thread nD τ).loc main_arg5)) (m ((c : Thread nD τ).loc main_arg6)) (m ((c : Thread nD τ).loc main_arg7)) (iblk m c 3 t) (iblk m c 4 t) (lam_eq m c t) (lam_real _ _ _ _ h3 h4 h5 h6) (blk_g m c t) (y 0) (y 1)).trans ?_
  refine congrArg _ ?_
  blk_ext [idx t, row, vlane, bOf, pos, iOf, hOf]

end Cert.KernelIdeal.Attn

end

end
-- ==== Proof.ExpertRef.lean ====
/- The experts' reference, at an element: the block's rows through its expert's gated feed-forward, or zero for a block that is not used. -/
module

public import proofs.«01_k».proof.Proof.Gen.Reference3Ideal
public import proofs.«01_k».proof.Proof.Gen.Reference3Ideal.Run
public import Idealize.ShloMosaic.Lib.Pointwise

@[expose] public section

set_option maxRecDepth 16384

noncomputable section

namespace Cert.Reference3Ideal.Expert

open Cert.Reference3Ideal Cert.Reference3Ideal.Gen Idealize.ShloMosaic Idealize.ShloMosaic.TcCoe Idealize.SL.Sem

/-! ## Rows of a stack of matrices, taken by number -/

/-- The dimension numbers of `table[idx]` for a table of `A` matrices and `n` numbers. -/
abbrev takeDims (A B C n : Nat)
    (wf : GatherDims.WF ⟨3, ![A, B, C]⟩ ⟨2, ![n, 1]⟩ ⟨3, ![n, B, C]⟩ [1, 2] [0] [] [0] [] 1 ![1, B, C]) :
    GatherDims ⟨3, ![A, B, C]⟩ ⟨2, ![n, 1]⟩ ⟨3, ![n, B, C]⟩ where
  offsetDims := [1, 2]
  collapsedSliceDims := [0]
  operandBatchingDims := []
  startIndicesBatchingDims := []
  startIndexMap := [0]
  indexVectorDim := 1
  sliceSizes := ![1, B, C]
  wf := wf

/-- Where the numbers hold `e` at `j`, the result's matrix `j` is the table's matrix `e`. -/
theorem take_at {α : Type} {A B C n : Nat}
    (wf : GatherDims.WF ⟨3, ![A, B, C]⟩ ⟨2, ![n, 1]⟩ ⟨3, ![n, B, C]⟩ [1, 2] [0] [] [0] [] 1 ![1, B, C])
    (x : (⟨3, ![A, B, C]⟩ : Shape).Idx → α) (idx : IVec ⟨2, ![n, 1]⟩ 32) (j : Fin n) (k : Fin B) (f : Fin C) (e : Fin A) (hA : A < 2 ^ 31)
    (he : idx (ix2 j (0 : Fin 1)) = BitVec.ofNat 32 e.val) :
    Host.gather (takeDims A B C n wf) x idx (ix3 j k f) = x (ix3 e k f) := by
  unfold Host.gather
  congr 1
  funext a
  refine Fin.ext ?_
  show (takeDims A B C n wf).start (ix3 j k f) idx a + (takeDims A B C n wf).batchCoord (ix3 j k f) a
      + (takeDims A B C n wf).offCoord (ix3 j k f) a = _
  rw [GatherDims.batchCoord_eq_zero _ _ _ (fun h => by simp at h)]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (takeDims A B C n wf).startIndexMap from List.mem_singleton.mpr rfl)]
    have hsi : (takeDims A B C n wf).siIdx (ix3 j k f) ⟨List.idxOf (0 : Fin 3) (takeDims A B C n wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    have hlt := e.isLt
    have h2 : (BitVec.ofNat 32 e.val).toInt.toNat = e.val := by
      rw [BitVec.toInt_eq_toNat_cond, BitVec.toNat_ofNat, if_pos (by omega)]
      simp only [Int.toNat_natCast]; omega
    show min (idx ((takeDims A B C n wf).siIdx (ix3 j k f) ⟨List.idxOf (0 : Fin 3) (takeDims A B C n wf).startIndexMap,
        List.idxOf_lt_length_iff.2 (List.mem_singleton.mpr rfl)⟩)).toInt.toNat (A - 1) = e.val
    rw [hsi, he, h2]
    omega
  · unfold GatherDims.start
    rw [dif_neg (show (1 : Fin 3) ∉ ([0] : List (Fin 3)) by decide)]
    unfold GatherDims.offCoord
    rw [dif_pos ((GatherDims.mem_sKept _ _).2 ⟨show (1 : Fin 3) ∉ ([0] : List (Fin 3)) by decide, List.not_mem_nil⟩)]
    simp only [Nat.zero_add]
    rfl
  · unfold GatherDims.start
    rw [dif_neg (show (2 : Fin 3) ∉ ([0] : List (Fin 3)) by decide)]
    unfold GatherDims.offCoord
    rw [dif_pos ((GatherDims.mem_sKept _ _).2 ⟨show (2 : Fin 3) ∉ ([0] : List (Fin 3)) by decide, List.not_mem_nil⟩)]
    simp only [Nat.zero_add]
    rfl

/-! ## The reference, in stages -/

/-- The blocks' experts, as the reference indexes the weights with them: a negative number would count from the end. -/
def refIdx (Bs : IVec S72 32) : IVec S72x1 32 :=
  broadcastInDim S72x1 ![0] bcast_S72_S72x1_0 (select (cmpi .slt Bs (broadcastInDim S72 ![] bcast_S_S72 (constantI S_ 32 0#32))) (addi Bs (broadcastInDim S72 ![] bcast_S_S72 (constantI S_ 32 8#32))) Bs)

/-- An up-projection of every block's expert. -/
def refW (W : FVec Ideal S1x8x1024x3584 .f32) (Bs : IVec S72 32) : FVec Ideal S72x1024x3584 .f32 :=
  Host.gather gather_S8x1024x3584_S72x1_S72x1024x3584_12_0_n_n_0_1_110243584 (shapeCast _ W shapeCasts_S1x8x1024x3584_S8x1024x3584) (refIdx Bs)

/-- The down-projection of every block's expert. -/
def refD (W : FVec Ideal S1x8x3584x1024 .f32) (Bs : IVec S72 32) : FVec Ideal S72x3584x1024 .f32 :=
  Host.gather gather_S8x3584x1024_S72x1_S72x3584x1024_12_0_n_n_0_1_135841024 (shapeCast _ W shapeCasts_S1x8x3584x1024_S8x3584x1024) (refIdx Bs)

/-- Every block's rows times its matrix. -/
def refDot (X : FVec Ideal S73728x1024 .f32) (W : FVec Ideal S72x1024x3584 .f32) : FVec Ideal S72x1024x3584 .f32 :=
  Host.dotGeneral dot_S72x1024x1024_S72x1024x3584_S72x1024x3584_2_1_1_2_0_0 none (shapeCast _ X shapeCasts_S73728x1024_S72x1024x1024) W

/-- The hidden units: the gate through silu, times the other projection. -/
def refHid (g u : FVec Ideal S72x1024x3584 .f32) : FVec Ideal S72x1024x3584 .f32 :=
  mulf (mulf g (Host.divf (broadcastInDim S72x1024x3584 ![] bcast_S_S72x1024x3584 (constant S_ .f32 0x3F800000#32)) (addf (broadcastInDim S72x1024x3584 ![] bcast_S_S72x1024x3584 (constant S_ .f32 0x3F800000#32)) (Host.exp (Host.negf g))))) u

/-- The hidden units times the down-projection, zero in the blocks that are not used. -/
def refOut (h : FVec Ideal S72x1024x3584 .f32) (d : FVec Ideal S72x3584x1024 .f32) (N : IVec S1 32) : FVec Ideal S73728x1024 .f32 :=
  shapeCast _ (select (broadcastInDim S72x1024x1024 ![0, 1, 2] bcast_S72x1x1_S72x1024x1024_0_1_2 (broadcastInDim S72x1x1 ![0] bcast_S72_S72x1x1_0 (cmpi .slt (iotaInDim S72 32 0) (broadcastInDim S72 ![] bcast_S_S72 (shapeCast _ N shapeCasts_S1_S_))))) (Host.dotGeneral dot_S72x1024x3584_S72x3584x1024_S72x1024x1024_2_1_1_2_0_0 none h d) (broadcastInDim S72x1024x1024 ![] bcast_S_S72x1024x1024 (constant S_ .f32 0x00000000#32))) shapeCasts_S72x1024x1024_S73728x1024

/-- The reference's result from its arguments. -/
def REF (Bs : IVec S72 32) (N : IVec S1 32) (X : FVec Ideal S73728x1024 .f32) (Wg Wu : FVec Ideal S1x8x1024x3584 .f32)
    (Wd : FVec Ideal S1x8x3584x1024 .f32) : FVec Ideal S73728x1024 .f32 :=
  refOut (refHid (refDot X (refW Wg Bs)) (refDot X (refW Wu Bs))) (refD Wd Bs) N

/-- Row `r` of block `j`, among all rows. -/
abbrev rowOf (j : Fin 72) (r : Fin 1024) : Fin 73728 := ⟨j.val * 1024 + r.val, by omega⟩

/-- A block's expert, in range, is the number the weights are indexed with. -/
theorem refIdx_at (Bs : IVec S72 32) (j : Fin 72) (h : (Bs (ix1 j)).toNat < 8) : refIdx Bs (ix2 j 0) = BitVec.ofNat 32 (Bs (ix1 j)).toNat := by
  unfold refIdx
  pointwise
  show (if BitVec.ofBool ((Bs (ix1 j)).slt 0#32) = 1#1 then _ else _) = _
  rw [BitVec.slt_eq_decide, decide_eq_false, if_neg (by decide)]
  · simp
  · rw [BitVec.toInt_eq_toNat_cond, if_pos (by omega)]; simp

/-- A block's up-projection is its expert's. -/
theorem refW_at (W : FVec Ideal S1x8x1024x3584 .f32) (Bs : IVec S72 32) (j : Fin 72) (h : (Bs (ix1 j)).toNat < 8) (k : Fin 1024) (f : Fin 3584) :
    refW W Bs (ix3 j k f) = W (ix4 0 ⟨(Bs (ix1 j)).toNat, h⟩ k f) := by
  refine (take_at _ (shapeCast _ W shapeCasts_S1x8x1024x3584_S8x1024x3584) (refIdx Bs) j k f ⟨(Bs (ix1 j)).toNat, h⟩ (by decide) (refIdx_at Bs j h)).trans ?_
  pointwise

/-- A block's down-projection is its expert's. -/
theorem refD_at (W : FVec Ideal S1x8x3584x1024 .f32) (Bs : IVec S72 32) (j : Fin 72) (h : (Bs (ix1 j)).toNat < 8) (f : Fin 3584) (n : Fin 1024) :
    refD W Bs (ix3 j f n) = W (ix4 0 ⟨(Bs (ix1 j)).toNat, h⟩ f n) := by
  refine (take_at _ (shapeCast _ W shapeCasts_S1x8x3584x1024_S8x3584x1024) (refIdx Bs) j f n ⟨(Bs (ix1 j)).toNat, h⟩ (by decide) (refIdx_at Bs j h)).trans ?_
  pointwise

/-- One element of a block's projection. -/
theorem refDot_at (X : FVec Ideal S73728x1024 .f32) (W : FVec Ideal S72x1024x3584 .f32) (j : Fin 72) (r : Fin 1024) (f : Fin 3584) :
    refDot X W (ix3 j r f) = ∑ k : Fin 1024, X (ix2 (rowOf j r) k) * W (ix3 j k f) := by
  pointwise [refDot]

/-- One hidden unit. -/
theorem refHid_at (g u : FVec Ideal S72x1024x3584 .f32) (j : Fin 72) (r : Fin 1024) (f : Fin 3584) :
    refHid g u (ix3 j r f) = g (ix3 j r f) * Ideal.div 1 (1 + Ideal.exp (-(g (ix3 j r f)))) * u (ix3 j r f) := by
  pointwise [refHid]

/-- One element of the result. -/
theorem refOut_at (h : FVec Ideal S72x1024x3584 .f32) (d : FVec Ideal S72x3584x1024 .f32) (N : IVec S1 32) (j : Fin 72) (r n : Fin 1024) :
    refOut h d N (ix2 (rowOf j r) n) = if BitVec.ofBool ((BitVec.ofNat 32 j.val).slt (N (ix1 0))) = 1#1 then ∑ f : Fin 3584, h (ix3 j r f) * d (ix3 j f n) else (0 : EReal) := by
  pointwise [refOut]
  have e1 : (⟨(j.val * 1024 + r.val) / 1024, by omega⟩ : Fin 72) = j := Fin.ext (by simp only; omega)
  have e2 : (⟨(j.val * 1024 + r.val) % 1024, by omega⟩ : Fin 1024) = r := Fin.ext (by simp only; omega)
  rw [e1, e2, show (j.val * 1024 + r.val) / 1024 = j.val by omega]
  rfl

/-- The reference runs, ends with that result and keeps its arguments. -/
theorem run_value (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v36) = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  unfold REF refOut refHid refDot refW refD refIdx
  exact Cert.Reference3Ideal.Value.run m g

end Cert.Reference3Ideal.Expert

end
-- ==== Proof.ExpertRunIdeal.lean ====
/- One launch of the experts' call: what the body does at one grid point, in each of its five cases.
   A block of rows is USED when its number is below `n_used`; its seven points accumulate the expert's output and the last one
   stores it. A block that is not used stores zeros at its first point and does nothing after. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.TableIdle
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.Kernel3Ideal.Expert

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the program's assertions. -/
abbrev RA3 (F : FTy → Type) [FloatOps F] := MT nD τ sig Unit (Elt F) ℕ (UR sig nD τ) ℕ

/-! ## The two tables as the body holds them -/

/-- The table of the blocks' experts, as the body is handed it. -/
abbrev tbM0 : Memref sig .tc .smem S72 .i32 := Memref.whole main_v17
/-- The number of used blocks, as the body is handed it. -/
abbrev tbM1 : Memref sig .tc .smem S1 .i32 := Memref.whole main_arg1
/-- A table's contents on core `c`. -/
abbrev TbBuf (c : Dev nD) {S : Shape} {e : EltTy} (M : Memref sig .tc .smem S e) : Type := Buf (Elt F) (M.view.loc (c : Thread nD τ))
/-- A table held at half the full share: readable, not writable. -/
abbrev tbPt (c : Dev nD) {S : Shape} {e : EltTy} (M : Memref sig .tc .smem S e) (f : TbBuf (F := F) c M) : sProp (RA3 F) :=
  M.view.loc (c : Thread nD τ) ↦{fullShare.right} f
/-- The number of used blocks, as the body loads it. -/
abbrev nWord {c : Dev nD} (xt1 : TbBuf (F := F) c tbM1) : BitVec 32 :=
  tbM1.view.readAt (Elt F) (Rect.unit (s := S1) ![0] S1.size inb_S1_S1_0).toLoadRect xt1 (Shape.Idx.first (numel1_S1.symm ▸ Nat.one_pos))

/-- The condition "this is the first of the block's seven points". -/
abbrev firstC (i : grid0.Coords) : Prop := (Scalar.cmpi .ne (Scalar.extui (Scalar.cmpi .eq (BitVec.ofNat 32 (i 1).val) 0#32)) 0#32) = 1#1

/-! ## The five cases -/

/-- A buffer overwritten whole reads what was stored. -/
theorem read_store {sp : Space} {S : Shape} {e : EltTy} (v : View sig .tc sp S e) (f : v.ty.Contents (Elt F)) {off : Fin S.rank → Nat}
    (inb : ∀ a, off a + S.size a ≤ S.size a) (w : S.Idx → Elt F e) (L : List (View.Piece (Elt F) S e)) (h : ∀ a, off a = 0) :
    v.read (Elt F) (v.writes (Elt F) f ((⟨Rect.unit off (no_index S.size) inb, w⟩ : View.Piece (Elt F) S e) :: L)) = w := by
  obtain rfl : off = fun _ => 0 := funext h
  funext y
  have e : (Rect.unit (s := S) (fun _ => 0) S.size inb).emb y = y := by
    funext a; apply Fin.ext; simp [Rect.emb, Rect.unit]
  have k := View.read_writes_cons_emb (Val := Elt F) v f (Rect.unit (s := S) (fun _ => 0) S.size inb) w L y
  rwa [e] at k

set_option maxHeartbeats 1000000 in
/-- The first point of a used block: the rows are narrowed into the first scratch, the second starts from zeros. -/
theorem runA (c : Dev nD) (i : grid0.Coords) (arg4 : Memref sig .tc .vmem S1024x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole)
    (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole)
    (x0 y : Vec F S1024x1024 .f32) (x1 x2 : Vec F S1x1024x512 .bf16) (x3 : Vec F S1x512x1024 .bf16) (a : Vec F S1024x1024 .bf16) (b : Vec F S1024x1024 .f32)
    (xt0 : TbBuf (F := F) c tbM0) (xt1 : TbBuf (F := F) c tbM1)
    (hu : k0_cond1 i (nWord (F := F) xt1) = 1#1) (hf : firstC i) (hl : ¬k0_cond3 i = 1#1) (hz : ¬k0_cond4 i (nWord (F := F) xt1) = 1#1) (E : Set ℕ) (K : PUnit → sProp (RA3 F)) :
    iprop(owns (c : Thread nD τ) arg4 fullShare x0 ∗ owns (c : Thread nD τ) arg5 fullShare x1 ∗ owns (c : Thread nD τ) arg6 fullShare x2 ∗ owns (c : Thread nD τ) arg7 fullShare x3
          ∗ owns (c : Thread nD τ) arg8 fullShare y ∗ owns (c : Thread nD τ) arg9 fullShare a ∗ owns (c : Thread nD τ) arg10 fullShare b ∗ tbPt c tbM0 xt0 ∗ tbPt c tbM1 xt1
        ∗ (iprop(owns (c : Thread nD τ) arg4 fullShare x0 ∗ owns (c : Thread nD τ) arg5 fullShare x1 ∗ owns (c : Thread nD τ) arg6 fullShare x2 ∗ owns (c : Thread nD τ) arg7 fullShare x3
          ∗ owns (c : Thread nD τ) arg8 fullShare y ∗ owns (c : Thread nD τ) arg9 fullShare (k0_pay1 x0) ∗ owns (c : Thread nD τ) arg10 fullShare (k0_pay3 (k0_pay1 x0) x1 x2 (k0_pay2 (F := F)) x3) ∗ tbPt c tbM0 xt0 ∗ tbPt c tbM1 xt1) -∗ K ⟨⟩))
      ⊢ wp frame (wpE (defs₀ (F := F)) Variants.none c none) E (cc0_moe_experts i tbM0 (Memref.isWhole_whole _) tbM1 (Memref.isWhole_whole _) arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, HT0, HT1, Hk⟩
  obtain rfl := harg4.eq_unread hf0; obtain rfl := harg5.eq_unread hf1; obtain rfl := harg6.eq_unread hf2; obtain rfl := harg7.eq_unread hf3
  obtain rfl := harg8.eq_unread hf4; obtain rfl := harg9.eq_unread hs0; obtain rfl := harg10.eq_unread hs1
  sl_exec (disch := first | sl_exact hu | sl_exact hf | sl_exact hl | sl_exact hz)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [HS0]
  · iexists _; isplitr
    swap; · iexact HS0
    ipureintro
    first | frame_out [read_store] | simp (disch := decide) only [View.read_writes_junk_eq_canon, View.canon_cons_unit_lit', View.ld_unit_lit', View.readCov_unit_lit', View.readCov_cons_unit_lit', View.readAt_eq_ld, Memref.IsWhole.read_unread, read_store]
  isplitl [HS1]
  · iexists _; isplitr
    swap; · iexact HS1
    ipureintro
    first | frame_out [read_store] | simp (disch := decide) only [View.read_writes_junk_eq_canon, View.canon_cons_unit_lit', View.ld_unit_lit', View.readCov_unit_lit', View.readCov_cons_unit_lit', View.readAt_eq_ld, Memref.IsWhole.read_unread, read_store]
  isplitl [HT0]; · iexact HT0
  iexact HT1

set_option maxHeartbeats 1000000 in
/-- A middle point of a used block: the second scratch takes one more tile. -/
theorem runB (c : Dev nD) (i : grid0.Coords) (arg4 : Memref sig .tc .vmem S1024x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole)
    (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole)
    (x0 y : Vec F S1024x1024 .f32) (x1 x2 : Vec F S1x1024x512 .bf16) (x3 : Vec F S1x512x1024 .bf16) (a : Vec F S1024x1024 .bf16) (b : Vec F S1024x1024 .f32)
    (xt0 : TbBuf (F := F) c tbM0) (xt1 : TbBuf (F := F) c tbM1)
    (hu : k0_cond1 i (nWord (F := F) xt1) = 1#1) (hf : ¬firstC i) (hl : ¬k0_cond3 i = 1#1) (hz : ¬k0_cond4 i (nWord (F := F) xt1) = 1#1) (E : Set ℕ) (K : PUnit → sProp (RA3 F)) :
    iprop(owns (c : Thread nD τ) arg4 fullShare x0 ∗ owns (c : Thread nD τ) arg5 fullShare x1 ∗ owns (c : Thread nD τ) arg6 fullShare x2 ∗ owns (c : Thread nD τ) arg7 fullShare x3
          ∗ owns (c : Thread nD τ) arg8 fullShare y ∗ owns (c : Thread nD τ) arg9 fullShare a ∗ owns (c : Thread nD τ) arg10 fullShare b ∗ tbPt c tbM0 xt0 ∗ tbPt c tbM1 xt1
        ∗ (iprop(owns (c : Thread nD τ) arg4 fullShare x0 ∗ owns (c : Thread nD τ) arg5 fullShare x1 ∗ owns (c : Thread nD τ) arg6 fullShare x2 ∗ owns (c : Thread nD τ) arg7 fullShare x3
          ∗ owns (c : Thread nD τ) arg8 fullShare y ∗ owns (c : Thread nD τ) arg9 fullShare a ∗ owns (c : Thread nD τ) arg10 fullShare (k0_pay3 a x1 x2 b x3) ∗ tbPt c tbM0 xt0 ∗ tbPt c tbM1 xt1) -∗ K ⟨⟩))
      ⊢ wp frame (wpE (defs₀ (F := F)) Variants.none c none) E (cc0_moe_experts i tbM0 (Memref.isWhole_whole _) tbM1 (Memref.isWhole_whole _) arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, HT0, HT1, Hk⟩
  obtain rfl := harg4.eq_unread hf0; obtain rfl := harg5.eq_unread hf1; obtain rfl := harg6.eq_unread hf2; obtain rfl := harg7.eq_unread hf3
  obtain rfl := harg8.eq_unread hf4; obtain rfl := harg9.eq_unread hs0; obtain rfl := harg10.eq_unread hs1
  sl_exec (disch := first | sl_exact hu | sl_exact hf | sl_exact hl | sl_exact hz)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [HS0]
  · iexists _; isplitr; · ipureintro; exact harg9.read_unread _
    iexact HS0
  isplitl [HS1]
  · iexists _; isplitr
    swap; · iexact HS1
    ipureintro
    first | frame_out [read_store] | simp (disch := decide) only [View.read_writes_junk_eq_canon, View.canon_cons_unit_lit', View.ld_unit_lit', View.readCov_unit_lit', View.readCov_cons_unit_lit', View.readAt_eq_ld, Memref.IsWhole.read_unread, read_store]
  isplitl [HT0]; · iexact HT0
  iexact HT1

set_option maxHeartbeats 1000000 in
/-- The last point of a used block: the same, and the sum is stored. -/
theorem runC (c : Dev nD) (i : grid0.Coords) (arg4 : Memref sig .tc .vmem S1024x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole)
    (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole)
    (x0 y : Vec F S1024x1024 .f32) (x1 x2 : Vec F S1x1024x512 .bf16) (x3 : Vec F S1x512x1024 .bf16) (a : Vec F S1024x1024 .bf16) (b : Vec F S1024x1024 .f32)
    (xt0 : TbBuf (F := F) c tbM0) (xt1 : TbBuf (F := F) c tbM1)
    (hu : k0_cond1 i (nWord (F := F) xt1) = 1#1) (hf : ¬firstC i) (hl : k0_cond3 i = 1#1) (hz : ¬k0_cond4 i (nWord (F := F) xt1) = 1#1) (E : Set ℕ) (K : PUnit → sProp (RA3 F)) :
    iprop(owns (c : Thread nD τ) arg4 fullShare x0 ∗ owns (c : Thread nD τ) arg5 fullShare x1 ∗ owns (c : Thread nD τ) arg6 fullShare x2 ∗ owns (c : Thread nD τ) arg7 fullShare x3
          ∗ owns (c : Thread nD τ) arg8 fullShare y ∗ owns (c : Thread nD τ) arg9 fullShare a ∗ owns (c : Thread nD τ) arg10 fullShare b ∗ tbPt c tbM0 xt0 ∗ tbPt c tbM1 xt1
        ∗ (iprop(owns (c : Thread nD τ) arg4 fullShare x0 ∗ owns (c : Thread nD τ) arg5 fullShare x1 ∗ owns (c : Thread nD τ) arg6 fullShare x2 ∗ owns (c : Thread nD τ) arg7 fullShare x3
          ∗ owns (c : Thread nD τ) arg8 fullShare (k0_pay3 a x1 x2 b x3) ∗ owns (c : Thread nD τ) arg9 fullShare a ∗ owns (c : Thread nD τ) arg10 fullShare (k0_pay3 a x1 x2 b x3) ∗ tbPt c tbM0 xt0 ∗ tbPt c tbM1 xt1) -∗ K ⟨⟩))
      ⊢ wp frame (wpE (defs₀ (F := F)) Variants.none c none) E (cc0_moe_experts i tbM0 (Memref.isWhole_whole _) tbM1 (Memref.isWhole_whole _) arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, HT0, HT1, Hk⟩
  obtain rfl := harg4.eq_unread hf0; obtain rfl := harg5.eq_unread hf1; obtain rfl := harg6.eq_unread hf2; obtain rfl := harg7.eq_unread hf3
  obtain rfl := harg8.eq_unread hf4; obtain rfl := harg9.eq_unread hs0; obtain rfl := harg10.eq_unread hs1
  sl_exec (disch := first | sl_exact hu | sl_exact hf | sl_exact hl | sl_exact hz)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr
    swap; · iexact H4
    ipureintro
    first | frame_out [read_store] | simp (disch := decide) only [View.read_writes_junk_eq_canon, View.canon_cons_unit_lit', View.ld_unit_lit', View.readCov_unit_lit', View.readCov_cons_unit_lit', View.readAt_eq_ld, Memref.IsWhole.read_unread, read_store]
  isplitl [HS0]
  · iexists _; isplitr; · ipureintro; exact harg9.read_unread _
    iexact HS0
  isplitl [HS1]
  · iexists _; isplitr
    swap; · iexact HS1
    ipureintro
    first | frame_out [read_store] | simp (disch := decide) only [View.read_writes_junk_eq_canon, View.canon_cons_unit_lit', View.ld_unit_lit', View.readCov_unit_lit', View.readCov_cons_unit_lit', View.readAt_eq_ld, Memref.IsWhole.read_unread, read_store]
  isplitl [HT0]; · iexact HT0
  iexact HT1

set_option maxHeartbeats 1000000 in
/-- The first point of a block that is not used: zeros are stored. -/
theorem runD (c : Dev nD) (i : grid0.Coords) (arg4 : Memref sig .tc .vmem S1024x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole)
    (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole)
    (x0 y : Vec F S1024x1024 .f32) (x1 x2 : Vec F S1x1024x512 .bf16) (x3 : Vec F S1x512x1024 .bf16) (a : Vec F S1024x1024 .bf16) (b : Vec F S1024x1024 .f32)
    (xt0 : TbBuf (F := F) c tbM0) (xt1 : TbBuf (F := F) c tbM1)
    (hu : ¬k0_cond1 i (nWord (F := F) xt1) = 1#1) (hz : k0_cond4 i (nWord (F := F) xt1) = 1#1) (E : Set ℕ) (K : PUnit → sProp (RA3 F)) :
    iprop(owns (c : Thread nD τ) arg4 fullShare x0 ∗ owns (c : Thread nD τ) arg5 fullShare x1 ∗ owns (c : Thread nD τ) arg6 fullShare x2 ∗ owns (c : Thread nD τ) arg7 fullShare x3
          ∗ owns (c : Thread nD τ) arg8 fullShare y ∗ owns (c : Thread nD τ) arg9 fullShare a ∗ owns (c : Thread nD τ) arg10 fullShare b ∗ tbPt c tbM0 xt0 ∗ tbPt c tbM1 xt1
        ∗ (iprop(owns (c : Thread nD τ) arg4 fullShare x0 ∗ owns (c : Thread nD τ) arg5 fullShare x1 ∗ owns (c : Thread nD τ) arg6 fullShare x2 ∗ owns (c : Thread nD τ) arg7 fullShare x3
          ∗ owns (c : Thread nD τ) arg8 fullShare (k0_pay4 (F := F)) ∗ owns (c : Thread nD τ) arg9 fullShare a ∗ owns (c : Thread nD τ) arg10 fullShare b ∗ tbPt c tbM0 xt0 ∗ tbPt c tbM1 xt1) -∗ K ⟨⟩))
      ⊢ wp frame (wpE (defs₀ (F := F)) Variants.none c none) E (cc0_moe_experts i tbM0 (Memref.isWhole_whole _) tbM1 (Memref.isWhole_whole _) arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, HT0, HT1, Hk⟩
  obtain rfl := harg4.eq_unread hf0; obtain rfl := harg5.eq_unread hf1; obtain rfl := harg6.eq_unread hf2; obtain rfl := harg7.eq_unread hf3
  obtain rfl := harg8.eq_unread hf4; obtain rfl := harg9.eq_unread hs0; obtain rfl := harg10.eq_unread hs1
  sl_exec (disch := first | sl_exact hu | sl_exact hz)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr
    swap; · iexact H4
    ipureintro
    first | frame_out [read_store] | simp (disch := decide) only [View.read_writes_junk_eq_canon, View.canon_cons_unit_lit', View.ld_unit_lit', View.readCov_unit_lit', View.readCov_cons_unit_lit', View.readAt_eq_ld, Memref.IsWhole.read_unread, read_store]
  isplitl [HS0]
  · iexists _; isplitr; · ipureintro; exact harg9.read_unread _
    iexact HS0
  isplitl [HS1]
  · iexists _; isplitr; · ipureintro; exact harg10.read_unread _
    iexact HS1
  isplitl [HT0]; · iexact HT0
  iexact HT1

set_option maxHeartbeats 1000000 in
/-- Any later point of a block that is not used: nothing is stored. -/
theorem runE (c : Dev nD) (i : grid0.Coords) (arg4 : Memref sig .tc .vmem S1024x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole)
    (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole)
    (x0 y : Vec F S1024x1024 .f32) (x1 x2 : Vec F S1x1024x512 .bf16) (x3 : Vec F S1x512x1024 .bf16) (a : Vec F S1024x1024 .bf16) (b : Vec F S1024x1024 .f32)
    (xt0 : TbBuf (F := F) c tbM0) (xt1 : TbBuf (F := F) c tbM1)
    (hu : ¬k0_cond1 i (nWord (F := F) xt1) = 1#1) (hz : ¬k0_cond4 i (nWord (F := F) xt1) = 1#1) (E : Set ℕ) (K : PUnit → sProp (RA3 F)) :
    iprop(owns (c : Thread nD τ) arg4 fullShare x0 ∗ owns (c : Thread nD τ) arg5 fullShare x1 ∗ owns (c : Thread nD τ) arg6 fullShare x2 ∗ owns (c : Thread nD τ) arg7 fullShare x3
          ∗ owns (c : Thread nD τ) arg8 fullShare y ∗ owns (c : Thread nD τ) arg9 fullShare a ∗ owns (c : Thread nD τ) arg10 fullShare b ∗ tbPt c tbM0 xt0 ∗ tbPt c tbM1 xt1
        ∗ (iprop(owns (c : Thread nD τ) arg4 fullShare x0 ∗ owns (c : Thread nD τ) arg5 fullShare x1 ∗ owns (c : Thread nD τ) arg6 fullShare x2 ∗ owns (c : Thread nD τ) arg7 fullShare x3
          ∗ owns (c : Thread nD τ) arg8 fullShare y ∗ owns (c : Thread nD τ) arg9 fullShare a ∗ owns (c : Thread nD τ) arg10 fullShare b ∗ tbPt c tbM0 xt0 ∗ tbPt c tbM1 xt1) -∗ K ⟨⟩))
      ⊢ wp frame (wpE (defs₀ (F := F)) Variants.none c none) E (cc0_moe_experts i tbM0 (Memref.isWhole_whole _) tbM1 (Memref.isWhole_whole _) arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, HT0, HT1, Hk⟩
  obtain rfl := harg4.eq_unread hf0; obtain rfl := harg5.eq_unread hf1; obtain rfl := harg6.eq_unread hf2; obtain rfl := harg7.eq_unread hf3
  obtain rfl := harg8.eq_unread hf4; obtain rfl := harg9.eq_unread hs0; obtain rfl := harg10.eq_unread hs1
  sl_exec (disch := first | sl_exact hu | sl_exact hz)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [HS0]
  · iexists _; isplitr; · ipureintro; exact harg9.read_unread _
    iexact HS0
  isplitl [HS1]
  · iexists _; isplitr; · ipureintro; exact harg10.read_unread _
    iexact HS1
  isplitl [HT0]; · iexact HT0
  iexact HT1

end Cert.Kernel3Ideal.Expert

end
-- ==== Proof.ExpertFrameIdeal.lean ====
/- The experts' call runs, faults nowhere, and leaves its arguments as they were: the launch, from the five cases of the body.
   What the output window holds after each point is stated with it, for the value. -/
module

public import proofs.«01_k».proof.Proof.ExpertRunIdeal
public import Idealize.ShloMosaic.Lib.Claim
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel3Ideal.Expert

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s buffers when the call is entered: after the host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

set_option maxHeartbeats 800000 in
/-- The host operations, then the launch. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- Every block an index map picks from the tables lies inside its array. -/
abbrev Ok : Prop := ok0 (F := F) (tbl m)
/-- The tables' contents with that fact, and the pipeline at them. -/
abbrev adm (hO : Ok m) : (pcfg0 (F := F)).Adm := ⟨tbl m, hO⟩
abbrev cfgM (hO : Ok m) : Pipeline.Cfg sig Λ₀ := cfg0 (adm m hO)

/-- The tables' halves, one by one. -/
theorem PhiT0_eq (c : Dev nD) : (Pipeline.ΦT pre0 (tbl m) c : sProp (RA3 F)) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's buffer holds its block at every point, fetched there or not. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, fetched there or not. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, fetched there or not. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, fetched there or not. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument arrays end unchanged, from a run to the pipeline's post. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-! ## The points -/

/-- Points are numbered with the block major, its seven tiles minor. -/
theorem coords0 (t : Fin grid0.N) : (grid0.coords t 0).val = t.val / 7 := by
  have ht : t.val < 504 := Nat.lt_of_lt_of_eq t.isLt N_0
  have e0 : (grid0.coords t 0).val = t.val / 7 % 72 := Pipeline.Grid.coords_val t 0 (by decide) rfl
  omega
theorem coords1 (t : Fin grid0.N) : (grid0.coords t 1).val = t.val % 7 := by
  have e1 : (grid0.coords t 1).val = t.val / 1 % 7 := Pipeline.Grid.coords_val t 1 (by decide) rfl
  omega

theorem firstC_iff (t : Fin grid0.N) : firstC (grid0.coords t) ↔ t.val % 7 = 0 := by
  have ht : t.val < 504 := Nat.lt_of_lt_of_eq t.isLt N_0
  have e1 := coords1 t
  simp only [firstC, e1]
  word_cmp
theorem lastC_iff (t : Fin grid0.N) : k0_cond3 (grid0.coords t) = 1#1 ↔ t.val % 7 = 6 := by
  have ht : t.val < 504 := Nat.lt_of_lt_of_eq t.isLt N_0
  have e1 := coords1 t
  simp only [k0_cond3, e1]
  word_cmp

/-- A bit widened to a word is nonzero exactly when it is set. -/
theorem bit_ne (b : BitVec 1) : Scalar.cmpi .ne (Scalar.extui b) 0#32 = 1#1 ↔ b = 1#1 := by
  revert b; decide

/-- The block of point `i` is used: its number, as a word, is below the number of used blocks. -/
theorem usedC_iff (i : grid0.Coords) (v : BitVec 32) : k0_cond1 i v = 1#1 ↔ (BitVec.ofNat 32 (i 0).val).toInt < v.toInt := by
  simp only [k0_cond1]
  rw [bit_ne]
  show BitVec.ofBool (decide ((BitVec.ofNat 32 (i 0).val).toInt < v.toInt)) = 1#1 ↔ _
  by_cases h : (BitVec.ofNat 32 (i 0).val).toInt < v.toInt <;> simp [h]
/-- Zeros are stored at the first point of a block that is not used, and nowhere else. -/
theorem zeroC_iff (i : grid0.Coords) (v : BitVec 32) : k0_cond4 i v = 1#1 ↔ (¬k0_cond1 i v = 1#1 ∧ firstC i) := by
  rw [usedC_iff]
  simp only [k0_cond4, firstC]
  rw [bit_ne, bit_ne]
  show IntOp.andi (BitVec.ofBool (decide (v.toInt ≤ (BitVec.ofNat 32 (i 0).val).toInt))) _ = 1#1 ↔ _
  by_cases h : v.toInt ≤ (BitVec.ofNat 32 (i 0).val).toInt
  · have h' : ¬(BitVec.ofNat 32 (i 0).val).toInt < v.toInt := by omega
    rw [decide_eq_true h]
    simp only [h', not_false_eq_true, true_and]
    generalize Scalar.cmpi .eq (BitVec.ofNat 32 (i 1).val) 0#32 = b
    revert b; decide
  · have h' : (BitVec.ofNat 32 (i 0).val).toInt < v.toInt := by omega
    rw [decide_eq_false h]
    simp only [h', not_true_eq_false, false_and, iff_false]
    generalize Scalar.cmpi .eq (BitVec.ofNat 32 (i 1).val) 0#32 = b
    revert b; decide

/-- The number of used blocks. -/
def nU : BitVec 32 := nWord (c := (0 : Dev nD)) (F := F) (tbl m 1)
theorem nU_atD : (tbl m).atD 1 ![0] = nU m := by
  unfold nU; generalize tbl m = T; rfl
/-- Point `t` belongs to a used block. -/
abbrev used (t : Fin grid0.N) : Prop := k0_cond1 (grid0.coords t) (nU m) = 1#1

theorem used_congr {t t' : Fin grid0.N} (h : t.val / 7 = t'.val / 7) : used m t ↔ used m t' := by
  unfold used; rw [usedC_iff, usedC_iff, coords0, coords0, h]

/-! ## What the scratch and the output hold -/

/-- The rows of point `t`'s block, as the first scratch holds them: those fetched at the block's first point, narrowed. -/
def xbAt (hO : Ok m) (c : Dev nD) (t : Fin (cfgM m hO).N) : Vec F S1024x1024 .bf16 :=
  k0_pay1 (iblk m hO c 0 ⟨t.val - t.val % 7, Nat.lt_of_le_of_lt (Nat.sub_le _ _) t.isLt⟩)

/-- The second scratch after point `n` of a used block: zeros at the block's start, one more tile at each point. -/
def accAt (hO : Ok m) (c : Dev nD) : (n : ℕ) → n < (cfgM m hO).N → Vec F S1024x1024 .f32
  | 0, h => k0_pay3 (xbAt m hO c ⟨0, h⟩) (iblk m hO c 1 ⟨0, h⟩) (iblk m hO c 2 ⟨0, h⟩) (k0_pay2 (F := F)) (iblk m hO c 3 ⟨0, h⟩)
  | n + 1, h => k0_pay3 (xbAt m hO c ⟨n + 1, h⟩) (iblk m hO c 1 ⟨n + 1, h⟩) (iblk m hO c 2 ⟨n + 1, h⟩)
      (if (n + 1) % 7 = 0 then k0_pay2 (F := F) else accAt hO c n (Nat.lt_of_succ_lt h)) (iblk m hO c 3 ⟨n + 1, h⟩)

theorem accAt_first (hO : Ok m) (c : Dev nD) (t : Fin (cfgM m hO).N) (h : t.val % 7 = 0) :
    accAt m hO c t.val t.isLt = k0_pay3 (xbAt m hO c t) (iblk m hO c 1 t) (iblk m hO c 2 t) (k0_pay2 (F := F)) (iblk m hO c 3 t) := by
  obtain ⟨n, hn⟩ := t
  cases n with
  | zero => rfl
  | succ n => simp only [accAt]; rw [if_pos h]
theorem accAt_step (hO : Ok m) (c : Dev nD) (t : Fin (cfgM m hO).N) (h : ¬t.val % 7 = 0) (hp : t.val - 1 < (cfgM m hO).N) :
    accAt m hO c t.val t.isLt = k0_pay3 (xbAt m hO c t) (iblk m hO c 1 t) (iblk m hO c 2 t) (accAt m hO c (t.val - 1) hp) (iblk m hO c 3 t) := by
  obtain ⟨n, hn⟩ := t
  cases n with
  | zero => exact absurd rfl h
  | succ n => simp only [accAt]; rw [if_neg h]; rfl
theorem xbAt_step (hO : Ok m) (c : Dev nD) (t : Fin (cfgM m hO).N) (h : ¬t.val % 7 = 0) (hp : t.val - 1 < (cfgM m hO).N) :
    xbAt m hO c ⟨t.val - 1, hp⟩ = xbAt m hO c t := by
  have e : (⟨(t.val - 1) - (t.val - 1) % 7, Nat.lt_of_le_of_lt (Nat.sub_le _ _) hp⟩ : Fin (cfgM m hO).N)
      = ⟨t.val - t.val % 7, Nat.lt_of_le_of_lt (Nat.sub_le _ _) t.isLt⟩ := Fin.ext (by simp only; omega)
  exact congrArg (fun s : Fin (cfgM m hO).N => (k0_pay1 (iblk m hO c 0 s) : Vec F S1024x1024 .bf16)) e
theorem xbAt_first (hO : Ok m) (c : Dev nD) (t : Fin (cfgM m hO).N) (h : t.val % 7 = 0) : xbAt m hO c t = k0_pay1 (iblk m hO c 0 t) := by
  have e : (⟨t.val - t.val % 7, Nat.lt_of_le_of_lt (Nat.sub_le _ _) t.isLt⟩ : Fin (cfgM m hO).N) = t := Fin.ext (by simp only; omega)
  exact congrArg (fun s : Fin (cfgM m hO).N => (k0_pay1 (iblk m hO c 0 s) : Vec F S1024x1024 .bf16)) e

/-- The output window after point `t`, where it is written back: the sum of a used block, zeros for any other. -/
def yAt (hO : Ok m) (c : Dev nD) (t : Fin (cfgM m hO).N) : Vec F S1024x1024 .f32 :=
  if used m t then accAt m hO c t.val t.isLt else k0_pay4 (F := F)

/-- What the two scratch buffers hold before point `n`: inside a used block, its rows and its sum so far. -/
def Held (hO : Ok m) (c : Dev nD) (n : ℕ) (a : Vec F S1024x1024 .bf16) (b : Vec F S1024x1024 .f32) : Prop :=
  ∀ h : n - 1 < (cfgM m hO).N, n % 7 ≠ 0 → used m ⟨n - 1, h⟩ → a = xbAt m hO c ⟨n - 1, h⟩ ∧ b = accAt m hO c (n - 1) h

abbrev sc0 : Memref sig .tc .vmem S1024x1024 .bf16 := Memref.whole cc0_scratch0
abbrev sc1 : Memref sig .tc .vmem S1024x1024 .f32 := Memref.whole cc0_scratch1

/-- The scoped buffers of the call, at some contents, and the generator register. -/
theorem PhiA_eq (c : Dev nD) :
    (Pipeline.ΦA spec0 c : sProp (RA3 F))
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The invariant before point `n`. -/
def Phi (hO : Ok m) (c : Dev nD) (n : ℕ) : sProp (RA3 F) :=
  iprop((∃ a, ∃ b, ⌜Held m hO c n a b⌝ ∗ owns (c : Thread nD τ) sc0 fullShare a ∗ owns (c : Thread nD τ) sc1 fullShare b)
    ∗ (∃ r, prngReg c r) ∗ Pipeline.ΦT pre0 (tbl m) c)

/-- The proof data of the launch. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => yAt m hO c t
  Φ t := Phi m hO c t.val
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = yAt m hO c t := by dsimp only [dats]; try rfl

theorem before_0 (hO : Ok m) (c : Dev nD) (t : Fin (cfgM m hO).N) (d) : (dats m hO 0 c).before 0 t d = iblk m hO c 0 t :=
  before0_0_of m hO (dats m hO 0 c) (A_eq m hO c 0) (after_0 m hO c) t d
theorem before_1 (hO : Ok m) (c : Dev nD) (t : Fin (cfgM m hO).N) (d) : (dats m hO 0 c).before 1 t d = iblk m hO c 1 t :=
  before0_1_of m hO (dats m hO 0 c) (A_eq m hO c 1) (after_1 m hO c) t d
theorem before_2 (hO : Ok m) (c : Dev nD) (t : Fin (cfgM m hO).N) (d) : (dats m hO 0 c).before 2 t d = iblk m hO c 2 t :=
  before0_2_of m hO (dats m hO 0 c) (A_eq m hO c 2) (after_2 m hO c) t d
theorem before_3 (hO : Ok m) (c : Dev nD) (t : Fin (cfgM m hO).N) (d) : (dats m hO 0 c).before 3 t d = iblk m hO c 3 t :=
  before0_3_of m hO (dats m hO 0 c) (A_eq m hO c 3) (after_3 m hO c) t d

/-! ## Where the output window is idle, and what it then holds -/

/-- The output is written back at the last point of each block. -/
theorem flush_4 (hO : Ok m) : ∀ t : Fin (cfgM m hO).N, ((cfgM m hO).win 4).flush t = true ↔ t.val % 7 = 6 :=
  (fun t => Pipeline.Window.flushOf_reads cc0_transform_4 reads0_4 hreads0_4 0 (by decide) (by decide) (Pipeline.Window.sep_of_coord cc0_transform_4 0 0 (fun _ => rfl) (by decide)) (P := 7) (m := 6) (by decide) rfl t : ∀ t : Fin grid0.N, Pipeline.Window.flushOf grid0 true cc0_transform_4 t = true ↔ t.val % 7 = 6)

theorem not_flush_4 (hO : Ok m) (t : Fin (cfgM m hO).N) (h : ¬t.val % 7 = 6) : ((cfgM m hO).win 4).flush t = false := by
  rw [← Bool.not_eq_true, flush_4]; exact h

/-- The condition the call states for its output window being idle, at any contents of the tables. -/
theorem idle_pf (pf : pre0.Contents (Elt F)) (i : grid0.Coords) : idle0 pf 4 i
    = (!(k0_cond1 i (pf.atD 1 ![0]) == 1#1 && k0_cond3 i == 1#1) && !(k0_cond4 i (pf.atD 1 ![0]) == 1#1)) := by exact rfl
theorem idle_at (a : (pcfg0 (F := F)).Adm) (i : grid0.Coords) : (cfg0 a).idle 4 i = idle0 a.1 4 i := by exact rfl

/-- The output window is idle at a point exactly when neither of the body's two stores to it runs there. -/
theorem idle_4 (hO : Ok m) (t : Fin (cfgM m hO).N) :
    (cfgM m hO).idle 4 ((cfgM m hO).grid.coords t) = true ↔ ¬(used m t ∧ t.val % 7 = 6) ∧ ¬(¬used m t ∧ t.val % 7 = 0) := by
  have e := (idle_at (adm m hO) (grid0.coords t)).trans (idle_pf (tbl m) (grid0.coords t))
  rw [nU_atD] at e
  refine (iff_of_eq (congrArg (· = true) e)).trans ?_
  have h3 := lastC_iff t
  have h4 := (zeroC_iff (grid0.coords t) (nU m)).trans (and_congr_right fun _ => firstC_iff t)
  simp only [Bool.and_eq_true, Bool.not_eq_true', Bool.eq_false_iff, ne_eq, beq_iff_eq, h3, h4]

/-- At an idle point the window keeps what it held. -/
theorem before_idle (hO : Ok m) (c : Dev nD) (d) (t : Fin (cfgM m hO).N) (h : ¬t.val % 7 = 0) (hp : t.val - 1 < (cfgM m hO).N)
    (hi : (cfgM m hO).idle 4 ((cfgM m hO).grid.coords ⟨t.val - 1, hp⟩) = true) :
    (dats m hO 0 c).before 4 t d = (dats m hO 0 c).before 4 ⟨t.val - 1, hp⟩ d := by
  have ht : t.val ≠ 0 := by intro h'; rw [h'] at h; simp at h
  conv_lhs => unfold Dat.before
  rw [if_neg (by rw [((cfgM m hO).win 4).fetch_out rfl]; exact Bool.false_ne_true), if_neg ht]
  extract_lets t'
  rw [if_neg (by rw [not_flush_4 m hO ⟨t.val - 1, hp⟩ (by simp only; omega)]; exact Bool.false_ne_true), Dat.found_eq_before]
  rw [hi]

/-- At any other it holds what the body stored. -/
theorem before_kept (hO : Ok m) (c : Dev nD) (d) (t : Fin (cfgM m hO).N) (h : ¬t.val % 7 = 0) (hp : t.val - 1 < (cfgM m hO).N)
    (hi : (cfgM m hO).idle 4 ((cfgM m hO).grid.coords ⟨t.val - 1, hp⟩) = false) :
    (dats m hO 0 c).before 4 t d = (dats m hO 0 c).kept 4 ⟨t.val - 1, hp⟩ d := by
  have ht : t.val ≠ 0 := by intro h'; rw [h'] at h; simp at h
  conv_lhs => unfold Dat.before
  rw [if_neg (by rw [((cfgM m hO).win 4).fetch_out rfl]; exact Bool.false_ne_true), if_neg ht]
  extract_lets t'
  rw [if_neg (by rw [not_flush_4 m hO ⟨t.val - 1, hp⟩ (by simp only; omega)]; exact Bool.false_ne_true), Dat.found_eq_before]
  rw [hi]

/-- After the first point of a block that is not used the output window holds zeros. -/
theorem before_4 (hO : Ok m) (c : Dev nD) (d) (k : ℕ) (t : Fin (cfgM m hO).N) (hk : t.val % 7 = k + 1) (hu : ¬used m t) :
    (dats m hO 0 c).before 4 t d = k0_pay4 (F := F) := by
  induction k generalizing t with
  | zero =>
    have hp : t.val - 1 < (cfgM m hO).N := Nat.lt_of_le_of_lt (Nat.sub_le _ _) t.isLt
    have hu' : ¬used m ⟨t.val - 1, hp⟩ := by rwa [used_congr m (t' := t) (by simp only; omega)]
    have hi : (cfgM m hO).idle 4 ((cfgM m hO).grid.coords ⟨t.val - 1, hp⟩) = false := by
      rw [← Bool.not_eq_true, idle_4]; rintro ⟨-, h⟩; exact h ⟨hu', by simp only; omega⟩
    rw [before_kept m hO c d t (by omega) hp hi]
    show (dats m hO 0 c).after 4 ⟨t.val - 1, hp⟩ = _
    rw [after_4]; unfold yAt; rw [if_neg hu']
  | succ k ih =>
    have hp : t.val - 1 < (cfgM m hO).N := Nat.lt_of_le_of_lt (Nat.sub_le _ _) t.isLt
    have hu' : ¬used m ⟨t.val - 1, hp⟩ := by rwa [used_congr m (t' := t) (by simp only; omega)]
    have hi : (cfgM m hO).idle 4 ((cfgM m hO).grid.coords ⟨t.val - 1, hp⟩) = true := by
      rw [idle_4]; exact ⟨fun h => hu' h.1, fun h => by have := h.2; simp only at this; omega⟩
    rw [before_idle m hO c d t (by omega) hp hi]
    exact ih ⟨t.val - 1, hp⟩ (by simp only; omega) hu'

/-! ## The body at any point -/

/-- Window 0's current buffer at point `t`, and that it is a whole buffer. -/
abbrev ms0 (hO : Ok m) (t : Fin (cfgM m hO).N) : Memref sig .tc .vmem S1024x1024 .f32 := spec0_0.stage ((cfgM m hO).slots t 0)
abbrev hs0 (hO : Ok m) (t : Fin (cfgM m hO).N) : (ms0 m hO t).IsWhole := hstage0_0 (((cfgM m hO).slots t 0).cast nbuf0_0)
/-- Window 1's current buffer at point `t`, and that it is a whole buffer. -/
abbrev ms1 (hO : Ok m) (t : Fin (cfgM m hO).N) : Memref sig .tc .vmem S1x1024x512 .bf16 := spec0_1.stage ((cfgM m hO).slots t 1)
abbrev hs1 (hO : Ok m) (t : Fin (cfgM m hO).N) : (ms1 m hO t).IsWhole := hstage0_1 (((cfgM m hO).slots t 1).cast nbuf0_1)
/-- Window 2's current buffer at point `t`, and that it is a whole buffer. -/
abbrev ms2 (hO : Ok m) (t : Fin (cfgM m hO).N) : Memref sig .tc .vmem S1x1024x512 .bf16 := spec0_2.stage ((cfgM m hO).slots t 2)
abbrev hs2 (hO : Ok m) (t : Fin (cfgM m hO).N) : (ms2 m hO t).IsWhole := hstage0_2 (((cfgM m hO).slots t 2).cast nbuf0_2)
/-- Window 3's current buffer at point `t`, and that it is a whole buffer. -/
abbrev ms3 (hO : Ok m) (t : Fin (cfgM m hO).N) : Memref sig .tc .vmem S1x512x1024 .bf16 := spec0_3.stage ((cfgM m hO).slots t 3)
abbrev hs3 (hO : Ok m) (t : Fin (cfgM m hO).N) : (ms3 m hO t).IsWhole := hstage0_3 (((cfgM m hO).slots t 3).cast nbuf0_3)
/-- Window 4's current buffer at point `t`, and that it is a whole buffer. -/
abbrev ms4 (hO : Ok m) (t : Fin (cfgM m hO).N) : Memref sig .tc .vmem S1024x1024 .f32 := spec0_4.stage ((cfgM m hO).slots t 4)
abbrev hs4 (hO : Ok m) (t : Fin (cfgM m hO).N) : (ms4 m hO t).IsWhole := hstage0_4 (((cfgM m hO).slots t 4).cast nbuf0_4)

/-- The body at point `t`, on the buffers the pipeline calls it with. -/
abbrev bodyAt (hO : Ok m) (t : Fin (cfgM m hO).N) : Prog (TpuEff nD τ sig (Elt F) Λ₀ .tc) PUnit :=
  cc0_moe_experts (grid0.coords t) tbM0 (Memref.isWhole_whole _) tbM1 (Memref.isWhole_whole _) (ms0 m hO t) (hs0 m hO t) (ms1 m hO t) (hs1 m hO t) (ms2 m hO t) (hs2 m hO t) (ms3 m hO t) (hs3 m hO t) (ms4 m hO t) (hs4 m hO t) sc0 (Memref.isWhole_whole _) sc1 (Memref.isWhole_whole _)

/-- What the body is called with at point `t`, -/
def bodyPre (hO : Ok m) (c : Dev nD) (t : Fin (cfgM m hO).N) : sProp (RA3 F) :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

/-- and what it returns. -/
def bodyPost (hO : Ok m) (c : Dev nD) (t : Fin (cfgM m hO).N) : sProp (RA3 F) :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ (dats m hO 0 c).leavesExact 4 t)

/-- Where the window is written back or stored to, the body leaves it as the proof data say. -/
theorem leaves_after (hO : Ok m) (c : Dev nD) (t : Fin (cfgM m hO).N)
    (h : (cfgM m hO).idle 4 ((cfgM m hO).grid.coords t) = false ∨ ((cfgM m hO).win 4).flush t = true) :
    (dats m hO 0 c).leavesExact 4 t = owns (c : Thread nD τ) (ms4 m hO t) fullShare (yAt m hO c t) := by
  rw [← after_4]
  unfold Dat.leavesExact
  rcases h with h | h
  · rw [h]; rfl
  · cases hi : (cfgM m hO).idle 4 ((cfgM m hO).grid.coords t)
    · rfl
    · rw [h]; rfl

theorem idle_of (hO : Ok m) (t : Fin (cfgM m hO).N) (h : ¬(¬(used m t ∧ t.val % 7 = 6) ∧ ¬(¬used m t ∧ t.val % 7 = 0))) :
    (cfgM m hO).idle 4 ((cfgM m hO).grid.coords t) = false := by
  rw [← Bool.not_eq_true, idle_4]; exact h

set_option maxHeartbeats 3200000 in
/-- At a used block's first point. -/
theorem bodyA (hO : Ok m) (c : Dev nD) (t : Fin (cfgM m hO).N) (hu : used m t) (h0 : t.val % 7 = 0) :
    bodyPre m hO c t ⊢ wp frame (wpE (defs₀ (F := F)) Variants.none c none) Set.univ (bodyAt m hO t) (fun _ => bodyPost m hO c t) := by
    unfold bodyPre bodyPost bodyAt
    have hN : t.val < 504 := lt_of_lt_of_eq t.isLt (show (cfgM m hO).N = 504 from N_0)
    have hp : t.val - 1 < (cfgM m hO).N := Nat.lt_of_le_of_lt (Nat.sub_le _ _) t.isLt
    simp only [before_0, before_1, before_2, before_3]
    rw [show (dats m hO 0 c).owesAt () t.succ = (dats m hO 0 c).owesAt () t.castSucc from rfl,
      after_0, after_1, after_2, after_3]
    rw [show (dats m hO 0 c).Φ t.succ = Phi m hO c (t.val + 1) from rfl, show (dats m hO 0 c).Φ t.castSucc = Phi m hO c t.val from rfl]
    unfold Phi
    rw [PhiT0_eq]
    iintro ⟨⟨⟨%a, %b, %hI, HS0, HS1⟩, Hg, HT0, HT1⟩, Ho, ⟨%d0, H0⟩, ⟨%d1, H1⟩, ⟨%d2, H2⟩, ⟨%d3, H3⟩, ⟨%d4, H4⟩⟩
    have h6 : ¬t.val % 7 = 6 := by omega
    rw [Dat.leavesExact_idle (dats m hO 0 c) 4 t ((idle_4 m hO t).mpr ⟨fun h => h6 h.2, fun h => h.1 hu⟩) (not_flush_4 m hO t h6)]
    iapply (runA c (grid0.coords t) _ (hs0 m hO t) _ (hs1 m hO t) _ (hs2 m hO t) _ (hs3 m hO t) _ (hs4 m hO t) _ (Memref.isWhole_whole _) _ (Memref.isWhole_whole _)
      (iblk m hO c 0 t) _ (iblk m hO c 1 t) (iblk m hO c 2 t) (iblk m hO c 3 t) _ _ (tbl m 0) (tbl m 1) hu ((firstC_iff t).mpr h0) (fun h => h6 ((lastC_iff t).mp h)) (fun h => ((zeroC_iff _ _).mp h).1 hu) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HT0]; · iexact HT0
    isplitl [HT1]; · iexact HT1
    iintro ⟨H0, H1, H2, H3, H4, HS0, HS1, HT0, HT1⟩
    isplitl [HS0 HS1 Hg HT0 HT1]
    · isplitl [HS0 HS1]
      · iexists _; iexists _; isplitr
        swap
        · isplitl [HS0]; · iexact HS0
          iexact HS1
        ipureintro; exact fun h _ _ => ⟨(xbAt_first m hO c t h0).symm, by show _ = accAt m hO c t.val t.isLt; rw [accAt_first m hO c t h0, xbAt_first m hO c t h0]⟩
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    iexists d4; iexact H4

set_option maxHeartbeats 3200000 in
/-- At a used block's middle points. -/
theorem bodyB (hO : Ok m) (c : Dev nD) (t : Fin (cfgM m hO).N) (hu : used m t) (h0 : ¬t.val % 7 = 0) (h6 : ¬t.val % 7 = 6) :
    bodyPre m hO c t ⊢ wp frame (wpE (defs₀ (F := F)) Variants.none c none) Set.univ (bodyAt m hO t) (fun _ => bodyPost m hO c t) := by
    unfold bodyPre bodyPost bodyAt
    have hN : t.val < 504 := lt_of_lt_of_eq t.isLt (show (cfgM m hO).N = 504 from N_0)
    have hp : t.val - 1 < (cfgM m hO).N := Nat.lt_of_le_of_lt (Nat.sub_le _ _) t.isLt
    simp only [before_0, before_1, before_2, before_3]
    rw [show (dats m hO 0 c).owesAt () t.succ = (dats m hO 0 c).owesAt () t.castSucc from rfl,
      after_0, after_1, after_2, after_3]
    rw [show (dats m hO 0 c).Φ t.succ = Phi m hO c (t.val + 1) from rfl, show (dats m hO 0 c).Φ t.castSucc = Phi m hO c t.val from rfl]
    unfold Phi
    rw [PhiT0_eq]
    iintro ⟨⟨⟨%a, %b, %hI, HS0, HS1⟩, Hg, HT0, HT1⟩, Ho, ⟨%d0, H0⟩, ⟨%d1, H1⟩, ⟨%d2, H2⟩, ⟨%d3, H3⟩, ⟨%d4, H4⟩⟩
    rw [Dat.leavesExact_idle (dats m hO 0 c) 4 t ((idle_4 m hO t).mpr ⟨fun h => h6 h.2, fun h => h.1 hu⟩) (not_flush_4 m hO t h6)]
    have hq : a = xbAt m hO c t ∧ b = accAt m hO c (t.val - 1) hp := by
      have k := hI hp h0 ((used_congr m (by simp only; omega)).mpr hu)
      rw [xbAt_step m hO c t h0 hp] at k; exact k
    obtain ⟨rfl, rfl⟩ := hq
    iapply (runB c (grid0.coords t) _ (hs0 m hO t) _ (hs1 m hO t) _ (hs2 m hO t) _ (hs3 m hO t) _ (hs4 m hO t) _ (Memref.isWhole_whole _) _ (Memref.isWhole_whole _)
      (iblk m hO c 0 t) _ (iblk m hO c 1 t) (iblk m hO c 2 t) (iblk m hO c 3 t) _ _ (tbl m 0) (tbl m 1) hu (fun h => h0 ((firstC_iff t).mp h)) (fun h => h6 ((lastC_iff t).mp h)) (fun h => ((zeroC_iff _ _).mp h).1 hu) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HT0]; · iexact HT0
    isplitl [HT1]; · iexact HT1
    iintro ⟨H0, H1, H2, H3, H4, HS0, HS1, HT0, HT1⟩
    isplitl [HS0 HS1 Hg HT0 HT1]
    · isplitl [HS0 HS1]
      · iexists _; iexists _; isplitr
        swap
        · isplitl [HS0]; · iexact HS0
          iexact HS1
        ipureintro; exact fun h _ _ => ⟨rfl, (accAt_step m hO c t h0 hp).symm⟩
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    iexists d4; iexact H4

set_option maxHeartbeats 3200000 in
/-- At a used block's last point. -/
theorem bodyC (hO : Ok m) (c : Dev nD) (t : Fin (cfgM m hO).N) (hu : used m t) (h6 : t.val % 7 = 6) :
    bodyPre m hO c t ⊢ wp frame (wpE (defs₀ (F := F)) Variants.none c none) Set.univ (bodyAt m hO t) (fun _ => bodyPost m hO c t) := by
    unfold bodyPre bodyPost bodyAt
    have hN : t.val < 504 := lt_of_lt_of_eq t.isLt (show (cfgM m hO).N = 504 from N_0)
    have hp : t.val - 1 < (cfgM m hO).N := Nat.lt_of_le_of_lt (Nat.sub_le _ _) t.isLt
    simp only [before_0, before_1, before_2, before_3]
    rw [show (dats m hO 0 c).owesAt () t.succ = (dats m hO 0 c).owesAt () t.castSucc from rfl,
      after_0, after_1, after_2, after_3]
    rw [show (dats m hO 0 c).Φ t.succ = Phi m hO c (t.val + 1) from rfl, show (dats m hO 0 c).Φ t.castSucc = Phi m hO c t.val from rfl]
    unfold Phi
    rw [PhiT0_eq]
    iintro ⟨⟨⟨%a, %b, %hI, HS0, HS1⟩, Hg, HT0, HT1⟩, Ho, ⟨%d0, H0⟩, ⟨%d1, H1⟩, ⟨%d2, H2⟩, ⟨%d3, H3⟩, ⟨%d4, H4⟩⟩
    have h0 : ¬t.val % 7 = 0 := by omega
    rw [leaves_after m hO c t (Or.inr ((flush_4 m hO t).mpr h6))]
    unfold yAt; rw [if_pos hu]
    have hq : a = xbAt m hO c t ∧ b = accAt m hO c (t.val - 1) hp := by
      have k := hI hp h0 ((used_congr m (by simp only; omega)).mpr hu)
      rw [xbAt_step m hO c t h0 hp] at k; exact k
    obtain ⟨rfl, rfl⟩ := hq
    rw [accAt_step m hO c t h0 hp]
    iapply (runC c (grid0.coords t) _ (hs0 m hO t) _ (hs1 m hO t) _ (hs2 m hO t) _ (hs3 m hO t) _ (hs4 m hO t) _ (Memref.isWhole_whole _) _ (Memref.isWhole_whole _)
      (iblk m hO c 0 t) _ (iblk m hO c 1 t) (iblk m hO c 2 t) (iblk m hO c 3 t) _ _ (tbl m 0) (tbl m 1) hu (fun h => h0 ((firstC_iff t).mp h)) ((lastC_iff t).mpr h6) (fun h => ((zeroC_iff _ _).mp h).1 hu) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HT0]; · iexact HT0
    isplitl [HT1]; · iexact HT1
    iintro ⟨H0, H1, H2, H3, H4, HS0, HS1, HT0, HT1⟩
    isplitl [HS0 HS1 Hg HT0 HT1]
    · isplitl [HS0 HS1]
      · iexists _; iexists _; isplitr
        swap
        · isplitl [HS0]; · iexact HS0
          iexact HS1
        ipureintro; exact fun h h7 _ => absurd (show (t.val + 1) % 7 = 0 by omega) h7
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4

set_option maxHeartbeats 3200000 in
/-- At the first point of a block that is not used. -/
theorem bodyD (hO : Ok m) (c : Dev nD) (t : Fin (cfgM m hO).N) (hu : ¬used m t) (h0 : t.val % 7 = 0) :
    bodyPre m hO c t ⊢ wp frame (wpE (defs₀ (F := F)) Variants.none c none) Set.univ (bodyAt m hO t) (fun _ => bodyPost m hO c t) := by
    unfold bodyPre bodyPost bodyAt
    have hN : t.val < 504 := lt_of_lt_of_eq t.isLt (show (cfgM m hO).N = 504 from N_0)
    have hp : t.val - 1 < (cfgM m hO).N := Nat.lt_of_le_of_lt (Nat.sub_le _ _) t.isLt
    simp only [before_0, before_1, before_2, before_3]
    rw [show (dats m hO 0 c).owesAt () t.succ = (dats m hO 0 c).owesAt () t.castSucc from rfl,
      after_0, after_1, after_2, after_3]
    rw [show (dats m hO 0 c).Φ t.succ = Phi m hO c (t.val + 1) from rfl, show (dats m hO 0 c).Φ t.castSucc = Phi m hO c t.val from rfl]
    unfold Phi
    rw [PhiT0_eq]
    iintro ⟨⟨⟨%a, %b, %hI, HS0, HS1⟩, Hg, HT0, HT1⟩, Ho, ⟨%d0, H0⟩, ⟨%d1, H1⟩, ⟨%d2, H2⟩, ⟨%d3, H3⟩, ⟨%d4, H4⟩⟩
    rw [leaves_after m hO c t (Or.inl (idle_of m hO t fun h => h.2 ⟨hu, h0⟩))]
    unfold yAt; rw [if_neg hu]
    iapply (runD c (grid0.coords t) _ (hs0 m hO t) _ (hs1 m hO t) _ (hs2 m hO t) _ (hs3 m hO t) _ (hs4 m hO t) _ (Memref.isWhole_whole _) _ (Memref.isWhole_whole _)
      (iblk m hO c 0 t) _ (iblk m hO c 1 t) (iblk m hO c 2 t) (iblk m hO c 3 t) _ _ (tbl m 0) (tbl m 1) hu ((zeroC_iff _ _).mpr ⟨hu, (firstC_iff t).mpr h0⟩) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HT0]; · iexact HT0
    isplitl [HT1]; · iexact HT1
    iintro ⟨H0, H1, H2, H3, H4, HS0, HS1, HT0, HT1⟩
    isplitl [HS0 HS1 Hg HT0 HT1]
    · isplitl [HS0 HS1]
      · iexists _; iexists _; isplitr
        swap
        · isplitl [HS0]; · iexact HS0
          iexact HS1
        ipureintro; exact fun h _ hu' => absurd hu' hu
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4

set_option maxHeartbeats 3200000 in
/-- At the middle points of a block that is not used. -/
theorem bodyE (hO : Ok m) (c : Dev nD) (t : Fin (cfgM m hO).N) (hu : ¬used m t) (h0 : ¬t.val % 7 = 0) (h6 : ¬t.val % 7 = 6) :
    bodyPre m hO c t ⊢ wp frame (wpE (defs₀ (F := F)) Variants.none c none) Set.univ (bodyAt m hO t) (fun _ => bodyPost m hO c t) := by
    unfold bodyPre bodyPost bodyAt
    have hN : t.val < 504 := lt_of_lt_of_eq t.isLt (show (cfgM m hO).N = 504 from N_0)
    have hp : t.val - 1 < (cfgM m hO).N := Nat.lt_of_le_of_lt (Nat.sub_le _ _) t.isLt
    simp only [before_0, before_1, before_2, before_3]
    rw [show (dats m hO 0 c).owesAt () t.succ = (dats m hO 0 c).owesAt () t.castSucc from rfl,
      after_0, after_1, after_2, after_3]
    rw [show (dats m hO 0 c).Φ t.succ = Phi m hO c (t.val + 1) from rfl, show (dats m hO 0 c).Φ t.castSucc = Phi m hO c t.val from rfl]
    unfold Phi
    rw [PhiT0_eq]
    iintro ⟨⟨⟨%a, %b, %hI, HS0, HS1⟩, Hg, HT0, HT1⟩, Ho, ⟨%d0, H0⟩, ⟨%d1, H1⟩, ⟨%d2, H2⟩, ⟨%d3, H3⟩, ⟨%d4, H4⟩⟩
    rw [Dat.leavesExact_idle (dats m hO 0 c) 4 t ((idle_4 m hO t).mpr ⟨fun h => h6 h.2, fun h => h0 h.2⟩) (not_flush_4 m hO t h6)]
    iapply (runE c (grid0.coords t) _ (hs0 m hO t) _ (hs1 m hO t) _ (hs2 m hO t) _ (hs3 m hO t) _ (hs4 m hO t) _ (Memref.isWhole_whole _) _ (Memref.isWhole_whole _)
      (iblk m hO c 0 t) _ (iblk m hO c 1 t) (iblk m hO c 2 t) (iblk m hO c 3 t) _ _ (tbl m 0) (tbl m 1) hu (fun h => h0 ((firstC_iff t).mp ((zeroC_iff _ _).mp h).2)) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HT0]; · iexact HT0
    isplitl [HT1]; · iexact HT1
    iintro ⟨H0, H1, H2, H3, H4, HS0, HS1, HT0, HT1⟩
    isplitl [HS0 HS1 Hg HT0 HT1]
    · isplitl [HS0 HS1]
      · iexists _; iexists _; isplitr
        swap
        · isplitl [HS0]; · iexact HS0
          iexact HS1
        ipureintro; exact fun h _ hu' => absurd hu' hu
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    iexists d4; iexact H4

set_option maxHeartbeats 3200000 in
/-- At the last point of a block that is not used: the zeros of the first point are still there. -/
theorem bodyF (hO : Ok m) (c : Dev nD) (t : Fin (cfgM m hO).N) (hu : ¬used m t) (h6 : t.val % 7 = 6) :
    bodyPre m hO c t ⊢ wp frame (wpE (defs₀ (F := F)) Variants.none c none) Set.univ (bodyAt m hO t) (fun _ => bodyPost m hO c t) := by
    unfold bodyPre bodyPost bodyAt
    have hN : t.val < 504 := lt_of_lt_of_eq t.isLt (show (cfgM m hO).N = 504 from N_0)
    have hp : t.val - 1 < (cfgM m hO).N := Nat.lt_of_le_of_lt (Nat.sub_le _ _) t.isLt
    simp only [before_0, before_1, before_2, before_3]
    rw [show (dats m hO 0 c).owesAt () t.succ = (dats m hO 0 c).owesAt () t.castSucc from rfl,
      after_0, after_1, after_2, after_3]
    rw [show (dats m hO 0 c).Φ t.succ = Phi m hO c (t.val + 1) from rfl, show (dats m hO 0 c).Φ t.castSucc = Phi m hO c t.val from rfl]
    unfold Phi
    rw [PhiT0_eq]
    iintro ⟨⟨⟨%a, %b, %hI, HS0, HS1⟩, Hg, HT0, HT1⟩, Ho, ⟨%d0, H0⟩, ⟨%d1, H1⟩, ⟨%d2, H2⟩, ⟨%d3, H3⟩, ⟨%d4, H4⟩⟩
    have h0 : ¬t.val % 7 = 0 := by omega
    rw [leaves_after m hO c t (Or.inr ((flush_4 m hO t).mpr h6)), before_4 m hO c d4 5 t h6 hu]
    unfold yAt; rw [if_neg hu]
    iapply (runE c (grid0.coords t) _ (hs0 m hO t) _ (hs1 m hO t) _ (hs2 m hO t) _ (hs3 m hO t) _ (hs4 m hO t) _ (Memref.isWhole_whole _) _ (Memref.isWhole_whole _)
      (iblk m hO c 0 t) _ (iblk m hO c 1 t) (iblk m hO c 2 t) (iblk m hO c 3 t) _ _ (tbl m 0) (tbl m 1) hu (fun h => h0 ((firstC_iff t).mp ((zeroC_iff _ _).mp h).2)) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HT0]; · iexact HT0
    isplitl [HT1]; · iexact HT1
    iintro ⟨H0, H1, H2, H3, H4, HS0, HS1, HT0, HT1⟩
    isplitl [HS0 HS1 Hg HT0 HT1]
    · isplitl [HS0 HS1]
      · iexists _; iexists _; isplitr
        swap
        · isplitl [HS0]; · iexact HS0
          iexact HS1
        ipureintro; exact fun h _ hu' => absurd hu' hu
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4

/-- The body at any point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  by_cases hu : used m t <;> by_cases h0 : t.val % 7 = 0
  · exact bodyA m hO c t hu h0
  · by_cases h6 : t.val % 7 = 6
    · exact bodyC m hO c t hu h6
    · exact bodyB m hO c t hu h0 h6
  · exact bodyD m hO c t hu h0
  · by_cases h6 : t.val % 7 = 6
    · exact bodyF m hO c t hu h6
    · exact bodyE m hO c t hu h0 h6

/-! ## The launch -/

theorem idle_at2 (a : (pcfg0 (F := F)).Adm) (i : grid0.Coords) : (cfg0 a).idle 2 i = false := by exact rfl
theorem idle_at3 (a : (pcfg0 (F := F)).Adm) (i : grid0.Coords) : (cfg0 a).idle 3 i = false := by exact rfl
theorem idle_2 (hO : Ok m) (t : Fin (cfgM m hO).N) : (cfgM m hO).idle 2 ((cfgM m hO).grid.coords t) = false := idle_at2 (adm m hO) _
theorem idle_3 (hO : Ok m) (t : Fin (cfgM m hO).N) : (cfgM m hO).idle 3 ((cfgM m hO).grid.coords t) = false := idle_at3 (adm m hO) _

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body's obligation at every point. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl ?_ fun _ => ?_
  · unfold bodyPre; exact Entails.refl _
  · unfold bodyPost
    refine sep_mono (Entails.refl _) (sep_mono (Entails.refl _) (sep_mono ?_ (sep_mono ?_ (sep_mono ?_ (sep_mono ?_ ?_)))))
    · exact Entails.refl _
    · exact Entails.refl _
    · rw [idle_2]; exact Entails.refl _
    · rw [idle_3]; exact Entails.refl _
    · unfold Dat.leavesExact
      simp only
      generalize idle0 (tbl m) 4 _ = b
      cases b
      · exact Entails.refl _
      · cases hf : ((cfgM m hO).win 4).flush t
        · dsimp only
          split
          · exact Entails.refl _
          · rename_i h; exact absurd (hf.symm.trans h) (by decide)
        · dsimp only
          split
          · rename_i h; exact absurd (hf.symm.trans h) (by decide)
          · exact Entails.refl _

theorem hin (hO : Ok m) (c : Dev nD) : iprop(Pipeline.ΦA spec0 c ∗ Pipeline.ΦT pre0 (tbl m) c) ⊢ (dats m hO 0 c).Φ 0 := by
  rw [show (dats m hO 0 c).Φ 0 = Phi m hO c 0 from rfl, PhiA_eq]
  unfold Phi
  iintro ⟨⟨⟨⟨%a, HS0⟩, ⟨%b, HS1⟩⟩, Hg⟩, HT⟩
  isplitl [HS0 HS1]
  · iexists a; iexists b; isplitr
    · ipureintro; exact fun _ h => absurd rfl h
    isplitl [HS0]; · iexact HS0
    iexact HS1
  isplitl [Hg]; · iexact Hg
  iexact HT

theorem hout (hO : Ok m) (c : Dev nD) : (dats m hO 0 c).Φ (Fin.last (cfgM m hO).N) ⊢ Pipeline.ΦA spec0 c := by
  rw [show (dats m hO 0 c).Φ (Fin.last (cfgM m hO).N) = Phi m hO c (Fin.last (cfgM m hO).N).val from rfl, PhiA_eq]
  unfold Phi
  iintro ⟨⟨%a, %b, -, HS0, HS1⟩, Hg, -⟩
  isplitl [HS0 HS1]
  · isplitl [HS0]
    · iexists _; iexact HS0
    iexists _; iexact HS1
  iexact Hg

set_option backward.isDefEq.respectTransparency.types false in
/-- Every execution terminates with the arrays at what the proof data say, and every semaphore at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The call terminates without a fault, its arguments end unchanged and every semaphore ends at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ hO (dats m hO) (A_eq m hO) (run_main m ρ hO)) ((θ_run defs _ _).mono (fun _ h => h.2) (run_main_quiescent m ρ hO))

end Cert.Kernel3Ideal.Expert

end
-- ==== Proof.ExpertTableIdeal.lean ====
/- The tables the experts' call reads, in words of its arguments: each block's expert, and the number of used blocks.
   Where every block's expert is one of the eight and a block is used, every index map stays inside its array. -/
module

public import proofs.«01_k».proof.Proof.ExpertFrameIdeal
public import proofs.«01_k».proof.Pre_tables
public import Idealize.ShloMosaic.Lib.StableHlo.Predicate
public import Idealize.ShloMosaic.Lib.StableHlo.RunRead
public import Idealize.ShloMosaic.Lib.Pointwise
public import Idealize.ShloMosaic.Lib.Pipeline.ValueKit
public import Idealize.ShloMosaic.Lib.Routing.OpsSearch

@[expose] public section

set_option maxRecDepth 16384

noncomputable section

namespace Cert.Kernel3Ideal.Expert

open Cert.Kernel3Ideal Cert.Kernel3Ideal.Gen
open Idealize.ShloMosaic Idealize.ShloMosaic.TcCoe Idealize.SL.Sem

variable {F : FTy → Type} [FloatOps F]

/-! ## Words -/

/-- The smaller of a block's number and the last used block's, as words and as numbers. -/
theorem min_word (j : ℕ) (hj : j < 72) (n : BitVec 32) (h : 1 ≤ n.toInt) :
    IntOp.minsi (BitVec.ofNat 32 j) (IntOp.subi n 1#32) = BitVec.ofNat 32 (min j (n.toNat - 1)) := by
  have hn := n.isLt
  rw [BitVec.toInt_eq_toNat_cond] at h
  have h1 : n.toNat < 2 ^ 31 := by split at h <;> omega
  have h2 : 1 ≤ n.toNat := by split at h <;> omega
  have hs : (IntOp.subi n 1#32).toNat = n.toNat - 1 := by
    show (n - 1#32).toNat = _
    rw [BitVec.toNat_sub]
    simp only [BitVec.toNat_ofNat]
    omega
  have hj' : (BitVec.ofNat 32 j).toNat = j := by rw [BitVec.toNat_ofNat]; omega
  apply BitVec.eq_of_toNat_eq
  rw [BitVec.toNat_ofNat]
  unfold IntOp.minsi
  rw [BitVec.slt_eq_decide, BitVec.toInt_eq_toNat_cond, BitVec.toInt_eq_toNat_cond, hs, hj', if_pos (show 2 * j < 2 ^ 32 by omega), if_pos (show 2 * (n.toNat - 1) < 2 ^ 32 by omega)]
  by_cases q : j < n.toNat - 1
  · rw [if_pos (decide_eq_true (by omega)), hj']
    omega
  · rw [if_neg (fun p => q (by have := of_decide_eq_true p; omega)), hs]
    omega

/-- A block's number is below the number of used blocks, as words and as numbers. -/
theorem lt_word (j : ℕ) (hj : j < 72) (n : BitVec 32) (h : 1 ≤ n.toInt) : (BitVec.ofNat 32 j).toInt < n.toInt ↔ j < n.toNat := by
  have hn := n.isLt
  rw [BitVec.toInt_eq_toNat_cond] at h
  have h1 : n.toNat < 2 ^ 31 := by split at h <;> omega
  have hj' : (BitVec.ofNat 32 j).toNat = j := by rw [BitVec.toNat_ofNat]; omega
  rw [BitVec.toInt_eq_toNat_cond, BitVec.toInt_eq_toNat_cond, hj', if_pos (by omega), if_pos (by omega)]
  omega

/-! ## The index maps -/

/-- The rows' window: the block itself, or the last used one. -/
theorem tr0 (pf : pre0.Contents (Elt F)) (n : BitVec 32) (e : pf.at 1 (Rect.unit (s := S1) ![0] S1.size inb_S1_S1_0) numel1_S1 = n)
    (h : 1 ≤ n.toInt) (i : grid0.Coords) :
    cc0_transform_0 inb_S1_S1_0 numel1_S1 pf i = ![min (i 0).val (n.toNat - 1), 0] := by
  have hi : (i 0).val < 72 := (i 0).isLt
  have hw := min_word (i 0).val hi n h
  unfold cc0_transform_0
  simp only [e]
  show ![(IntOp.minsi (BitVec.ofNat 32 (i 0).val) (IntOp.subi n 1#32)).toNat, (0#32).toNat] = _
  rw [hw, BitVec.toNat_ofNat, Nat.mod_eq_of_lt (by omega)]
  rfl

/-- The tile of a block's hidden units: the point's own, or the last for a block that is not used. -/
theorem tile_word (j f : ℕ) (hj : j < 72) (hf : f < 7) (n : BitVec 32) (h : 1 ≤ n.toInt) :
    (Scalar.select (Scalar.cmpi .slt (BitVec.ofNat 32 j) n) (BitVec.ofNat 32 f) (6#32) : BitVec 32).toNat = if j < n.toNat then f else 6 := by
  have hl := lt_word j hj n h
  show (if BitVec.ofBool ((BitVec.ofNat 32 j).slt n) = 1#1 then BitVec.ofNat 32 f else 6#32 : BitVec 32).toNat = _
  rw [BitVec.slt_eq_decide]
  by_cases q : j < n.toNat
  · rw [if_pos q, decide_eq_true (hl.mpr q)]
    rw [if_pos (by decide), BitVec.toNat_ofNat]; omega
  · rw [if_neg q, decide_eq_false (fun p => q (hl.mp p))]
    rw [if_neg (by decide)]; rfl

/-- The gate's window: the block's expert and tile. -/
theorem tr1 (pf : pre0.Contents (Elt F)) (n : BitVec 32) (e : pf.at 1 (Rect.unit (s := S1) ![0] S1.size inb_S1_S1_0) numel1_S1 = n)
    (h : 1 ≤ n.toInt) (i : grid0.Coords) :
    cc0_transform_1 k0_off1_inb numel1_S1 inb_S1_S1_0 pf i
      = ![(show BitVec 32 from pf.at 0 (Rect.unit (s := S72) (k0_off1 i) S1.size (k0_off1_inb i)) numel1_S1).toNat, 0, if (i 0).val < n.toNat then (i 1).val else 6] := by
  have hw := tile_word (i 0).val (i 1).val (i 0).isLt (i 1).isLt n h
  unfold cc0_transform_1
  simp only [e]
  rw [hw]
  rfl

/-- The other up-projection's window is the gate's. -/
theorem tr2 (pf : pre0.Contents (Elt F)) (i : grid0.Coords) :
    cc0_transform_2 k0_off1_inb numel1_S1 inb_S1_S1_0 pf i = cc0_transform_1 k0_off1_inb numel1_S1 inb_S1_S1_0 pf i := rfl

/-- The down-projection's window: the block's expert and tile. -/
theorem tr3 (pf : pre0.Contents (Elt F)) (n : BitVec 32) (e : pf.at 1 (Rect.unit (s := S1) ![0] S1.size inb_S1_S1_0) numel1_S1 = n)
    (h : 1 ≤ n.toInt) (i : grid0.Coords) :
    cc0_transform_3 k0_off1_inb numel1_S1 inb_S1_S1_0 pf i
      = ![(show BitVec 32 from pf.at 0 (Rect.unit (s := S72) (k0_off1 i) S1.size (k0_off1_inb i)) numel1_S1).toNat, if (i 0).val < n.toNat then (i 1).val else 6, 0] := by
  have hw := tile_word (i 0).val (i 1).val (i 0).isLt (i 1).isLt n h
  unfold cc0_transform_3
  simp only [e]
  rw [hw]
  rfl

/-! ## The windows' blocks -/

theorem in0 : ∀ a : Fin 72, ∃ h : (∀ x, ((![a.val, 0] : Fin 2 → Nat) x + 1) * S1024x1024.size x ≤ S73728x1024.size x),
    EltTy.bits .f32 = 32 ∨ (Rect.block (s := S73728x1024) S1024x1024.size ![a.val, 0] h).WholeWords (EltTy.packing .f32) := by
  decide +kernel
theorem in1 : ∀ (e : Fin 8) (f : Fin 7), ∃ h : (∀ x, ((![e.val, 0, f.val] : Fin 3 → Nat) x + 1) * S1x1024x512.size x ≤ S8x1024x3584.size x),
    EltTy.bits .bf16 = 32 ∨ (Rect.block (s := S8x1024x3584) S1x1024x512.size ![e.val, 0, f.val] h).WholeWords (EltTy.packing .bf16) := by
  decide +kernel
theorem in3 : ∀ (e : Fin 8) (f : Fin 7), ∃ h : (∀ x, ((![e.val, f.val, 0] : Fin 3 → Nat) x + 1) * S1x512x1024.size x ≤ S8x3584x1024.size x),
    EltTy.bits .bf16 = 32 ∨ (Rect.block (s := S8x3584x1024) S1x512x1024.size ![e.val, f.val, 0] h).WholeWords (EltTy.packing .bf16) := by
  decide +kernel

/-- Tables whose experts are in range and with a used block keep every window inside its array. -/
theorem ok_of_words (pf : pre0.Contents (Elt F)) (n : BitVec 32) (e : pf.at 1 (Rect.unit (s := S1) ![0] S1.size inb_S1_S1_0) numel1_S1 = n)
    (h : 1 ≤ n.toInt)
    (hb : ∀ i : grid0.Coords, (show BitVec 32 from pf.at 0 (Rect.unit (s := S72) (k0_off1 i) S1.size (k0_off1_inb i)) numel1_S1).toNat < 8) : ok0 pf := by
  have hf : ∀ i : grid0.Coords, (if (i 0).val < n.toNat then (i 1).val else 6) < 7 := fun i => by
    have h1 : (i 1).val < 7 := (i 1).isLt
    split <;> omega
  have h0 : ∀ i : grid0.Coords, min (i 0).val (n.toNat - 1) < 72 := fun i => by
    have h1 : (i 0).val < 72 := (i 0).isLt
    omega
  unfold ok0
  refine ⟨fun i => ?_, fun i => ?_, fun i => ?_, fun i => ?_⟩
  · rw [tr0 pf n e h i]
    exact in0 ⟨_, h0 i⟩
  · rw [tr1 pf n e h i]
    exact in1 ⟨_, hb i⟩ ⟨_, hf i⟩
  · rw [tr2 pf i, tr1 pf n e h i]
    exact in1 ⟨_, hb i⟩ ⟨_, hf i⟩
  · rw [tr3 pf n e h i]
    exact in3 ⟨_, hb i⟩ ⟨_, hf i⟩

/-- The second table's word, as the index maps load it. -/
theorem at1 (pf : pre0.Contents (Elt F)) : pf.at 1 (Rect.unit (s := S1) ![0] S1.size inb_S1_S1_0) numel1_S1 = pf 1 (ix1 0) := by
  refine congrArg (pf 1) ?_
  funext a
  match a with
  | ⟨0, _⟩ => exact Fin.ext rfl

/-- The first table's word of a block, as the index maps load it. -/
theorem at0 (pf : pre0.Contents (Elt F)) (i : grid0.Coords) :
    pf.at 0 (Rect.unit (s := S72) (k0_off1 i) S1.size (k0_off1_inb i)) numel1_S1 = pf 0 (ix1 (i 0)) := by
  refine congrArg (pf 0) ?_
  have hi : (i 0).val < 72 := (i 0).isLt
  funext a
  match a with
  | ⟨0, _⟩ =>
    refine Fin.ext ?_
    show (BitVec.ofNat 32 (i 0).val).toNat + 1 * 0 = (i 0).val
    rw [BitVec.toNat_ofNat]; omega

/-! ## The tables, from the arguments -/

variable (m : (ℓ : Loc nD τ sig) → Buf (Elt F) ℓ)

/-- Block `j`'s expert, as given. -/
abbrev be (c : Dev nD) (j : Fin 72) : BitVec 32 := m ((c : Thread nD τ).loc main_arg0) (ix1 j)
/-- The number of used blocks, as given. -/
abbrev nu (c : Dev nD) : BitVec 32 := m ((c : Thread nD τ).loc main_arg1) (ix1 0)

/-- What the precondition says of the arguments: every block's expert is one of the eight, and a block is used. -/
def Tables : Prop := ∀ c : Dev nD, (∀ j : Fin 72, (be m c j).toNat < 8) ∧ 1 ≤ (nu m c).toInt

/-- The block whose expert block `j` takes: itself, or the last used one. -/
abbrev clipOf (n : BitVec 32) (j : Fin 72) : Fin 72 := ⟨min j.val (n.toNat - 1), by omega⟩

/-- The experts' table the region finds. -/
theorem V_be (c : Dev nD) (h : 1 ≤ (nu m c).toInt) (j : Fin 72) : V m c main_v17 (ix1 j) = be m c (clipOf (nu m c) j) := by
  have e : V m c main_v17 = Host.gather gather_S72_S72x1_S72_n_0_n_n_0_1_1 (V m c main_arg0) (V m c main_v16) := by
    unfold V; after_reads_simp
  have e16 : V m c main_v16 = (broadcastInDim S72x1 ![0] bcast_S72_S72x1_0 (select
      (cmpi .slt (minsi (iotaInDim S72 32 0) (broadcastInDim S72 ![] bcast_S_S72 (subi (shapeCast _ (V m c main_arg1) shapeCasts_S1_S_) (constantI S_ 32 1#32)))) (broadcastInDim S72 ![] bcast_S_S72 (constantI S_ 32 0#32)))
      (addi (minsi (iotaInDim S72 32 0) (broadcastInDim S72 ![] bcast_S_S72 (subi (shapeCast _ (V m c main_arg1) shapeCasts_S1_S_) (constantI S_ 32 1#32)))) (broadcastInDim S72 ![] bcast_S_S72 (constantI S_ 32 72#32)))
      (minsi (iotaInDim S72 32 0) (broadcastInDim S72 ![] bcast_S_S72 (subi (shapeCast _ (V m c main_arg1) shapeCasts_S1_S_) (constantI S_ 32 1#32))))) : IVec S72x1 32) := by
    unfold V; after_reads_simp; rfl
  have hx : V m c main_v16 (ix2 j 0) = BitVec.ofNat 32 (min j.val ((nu m c).toNat - 1)) := by
    rw [e16]
    pointwise
    rw [show V m c main_arg1 (ix1 0) = nu m c from congrFun (V_main_arg1 m c) _, min_word j.val j.isLt _ h]
    show (if BitVec.ofBool ((BitVec.ofNat 32 (min j.val ((nu m c).toNat - 1))).slt 0#32) = 1#1 then _ else _) = _
    rw [BitVec.slt_eq_decide, decide_eq_false, if_neg (by decide)]
    rw [BitVec.toInt_eq_toNat_cond, BitVec.toNat_ofNat, if_pos (by omega)]
    simp
    omega
  rw [e]
  exact (Routing.take_ap _ rfl rfl rfl rfl _ _ j (by omega) (by omega) hx).trans (congrFun (V_main_arg0 m c) _)

/-- The tables are device 0's. -/
theorem tbl_nu : (tbl m).at 1 (Rect.unit (s := S1) ![0] S1.size inb_S1_S1_0) numel1_S1 = nu m 0 :=
  (at1 (tbl m)).trans (congrFun (V_main_arg1 m 0) (ix1 0))
theorem tbl_be (h : 1 ≤ (nu m 0).toInt) (i : grid0.Coords) :
    (tbl m).at 0 (Rect.unit (s := S72) (k0_off1 i) S1.size (k0_off1_inb i)) numel1_S1 = be m 0 (clipOf (nu m 0) (i 0)) :=
  (at0 (tbl m) i).trans (V_be m 0 h (i 0))
theorem nU_eq : nU m = nu m 0 := by
  rw [← nU_atD]
  exact tbl_nu m

/-- Arguments that meet the precondition keep every window inside its array. -/
theorem ok_of_tables (h : Tables m) : Ok m :=
  ok_of_words (tbl m) (nu m 0) (tbl_nu m) (h 0).2 fun i => by
    rw [tbl_be m (h 0).2 i]
    exact (h 0).1 _

/-- The precondition, decoded. -/
theorem tables_of_pre [hPre_tables : Cert.Pre_tables.Facts] (h : ∀ c : Dev nD,
    (Cert.Pre_tables.fn (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).1 = (fun _ => 1#1)
    ∧ (Cert.Pre_tables.fn (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).2.1 = (fun _ => 1#1)
    ∧ (Cert.Pre_tables.fn (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).2.2 = (fun _ => 1#1)) : Tables m := by
  have ofBool_eq_one (p : Bool) : (BitVec.ofBool p = 1#1) ↔ p = true := by cases p <;> decide
  have key : ∀ v : BitVec 32, IntOp.cmpi .sge v 0#32 = 1#1 → IntOp.cmpi .slt v 8#32 = 1#1 → v.toNat < 8 := by
    intro v h1 h2
    simp only [IntOp.cmpi, ofBool_eq_one, BitVec.sle_eq_decide, BitVec.slt_eq_decide, decide_eq_true_eq, BitVec.toInt_eq_toNat_cond,
      BitVec.toNat_ofNat, Nat.reducePow, Nat.reduceMod] at h1 h2
    have := v.isLt
    split at h1 <;> simp at h1 h2 <;> omega
  have key' : ∀ v : BitVec 32, IntOp.cmpi .sge v 1#32 = 1#1 → 1 ≤ v.toInt := by
    intro v h1
    simp only [IntOp.cmpi, ofBool_eq_one, BitVec.sle_eq_decide, decide_eq_true_eq] at h1
    simpa using h1
  intro c
  obtain ⟨h1, h2, h3⟩ := h c
  refine ⟨fun j => ?_, ?_⟩
  · have e1 := congrFun h1 (ix1 j)
    have e2 := congrFun h2 (ix1 j)
    simp only [Cert.Pre_tables.fn, cmpi, broadcastInDim, constantI] at e1 e2
    exact key _ e1 e2
  · have e3 := congrFun h3 (ix1 0)
    simp only [Cert.Pre_tables.fn, cmpi, broadcastInDim, constantI] at e3
    exact key' _ e3

end Cert.Kernel3Ideal.Expert

end
-- ==== Proof.ExpertValue.lean ====
/- The experts' call computes its reference. -/
module

public import proofs.«01_k».proof.Proof.ExpertRef
public import proofs.«01_k».proof.Proof.FfnValue
public import proofs.«01_k».proof.Proof.ExpertTableIdeal
public import Idealize.ShloMosaic.Lib.Pipeline.ValueKit
public import Idealize.ShloMosaic.Lib.Pipeline.ReadBack
public import Idealize.ShloMosaic.Lib.Pipeline.Covers

@[expose] public section

set_option maxRecDepth 16384

noncomputable section

namespace Cert.Kernel3Ideal.Expert

open Cert.Kernel3Ideal Cert.Kernel3Ideal.Gen Idealize.ShloMosaic Idealize.ShloMosaic.TcCoe Idealize.SL.Sem
open Idealize.ShloMosaic.Pipeline (Dat)
open Cert.Kernel2Ideal.Ffn (silu_eq)
open Cert.Reference3Ideal.Expert (REF refIdx refW refD refDot refHid refOut refW_at refD_at refDot_at refHid_at refOut_at rowOf)

/-! ## The body's values -/

/-- A block's rows, narrowed: themselves. -/
theorem pay1_at (x : FVec Ideal S1024x1024 .f32) (j : S1024x1024.Idx) : k0_pay1 (F := Ideal) x j = x j := by
  pointwise [k0_pay1]

/-- The accumulator starts at zero. -/
theorem pay2_at (j : S1024x1024.Idx) : k0_pay2 (F := Ideal) j = 0 := by
  pointwise [k0_pay2]

/-- A block that is not used is filled with zeros. -/
theorem pay4_at (j : S1024x1024.Idx) : k0_pay4 (F := Ideal) j = 0 := by
  pointwise [k0_pay4]

/-- One tile's contribution to element `(r, n)` of the accumulator. -/
def part (x : FVec Ideal S1024x1024 .bf16) (wg wu : FVec Ideal S1x1024x512 .bf16) (wd : FVec Ideal S1x512x1024 .bf16) (r n : Fin 1024) : EReal :=
  ∑ f : Fin 512, (∑ k : Fin 1024, x (ix2 r k) * wg (ix3 0 k f)) * Ideal.div 1 (1 + Ideal.exp (-(∑ k : Fin 1024, x (ix2 r k) * wg (ix3 0 k f))))
    * (∑ k : Fin 1024, x (ix2 r k) * wu (ix3 0 k f)) * wd (ix3 0 f n)

/-- The contribution, with its operands' elements known. -/
theorem part_congr (x : FVec Ideal S1024x1024 .bf16) (wg wu : FVec Ideal S1x1024x512 .bf16) (wd : FVec Ideal S1x512x1024 .bf16) (r n : Fin 1024)
    (X : Fin 1024 → EReal) (G U : Fin 1024 → Fin 512 → EReal) (D : Fin 512 → EReal) (hx : ∀ k, x (ix2 r k) = X k)
    (hg : ∀ k f, wg (ix3 0 k f) = G k f) (hu : ∀ k f, wu (ix3 0 k f) = U k f) (hd : ∀ f, wd (ix3 0 f n) = D f) :
    part x wg wu wd r n = ∑ f : Fin 512, (∑ k : Fin 1024, X k * G k f) * Ideal.div 1 (1 + Ideal.exp (-(∑ k : Fin 1024, X k * G k f)))
      * (∑ k : Fin 1024, X k * U k f) * D f := by
  unfold part
  simp only [hx, hg, hu, hd]

/-- The accumulator after a tile. -/
theorem pay3_at (x : FVec Ideal S1024x1024 .bf16) (wg wu : FVec Ideal S1x1024x512 .bf16) (acc : FVec Ideal S1024x1024 .f32)
    (wd : FVec Ideal S1x512x1024 .bf16) (r n : Fin 1024) : k0_pay3 x wg wu acc wd (ix2 r n) = acc (ix2 r n) + part x wg wu wd r n := by
  pointwise [k0_pay3, part]
  all_goals simp only [silu_eq]

/-! ## The windows' blocks, for any tables -/

/-- The block of rows a point works on, and its tile. -/
abbrev jOf (t : Fin grid0.N) : Fin 72 := ⟨t.val / 7, by have := Nat.lt_of_lt_of_eq t.isLt N_0; omega⟩
abbrev sOf (t : Fin grid0.N) : Fin 7 := ⟨t.val % 7, Nat.mod_lt _ (by decide)⟩

section Blocks
variable (a : (pcfg0 (F := Ideal)).Adm) (t : Fin grid0.N)

/-- The rows' block. -/
theorem read0 (A : FVec Ideal S73728x1024 .f32) (j : Fin 72) (h : cc0_transform_0 inb_S1_S1_0 numel1_S1 a.1 (grid0.coords t) = ![j.val, 0]) (r k : Fin 1024) :
    (((cfg0 a).win 0).blk t).view.read (Elt Ideal) A (ix2 r k) = A (ix2 (rowOf j r) k) := by
  have e : ((cfg0 a).win 0).index t = ![j.val, 0] := h
  blk_ext [e]

/-- The gate's block. -/
theorem read1 (A : FVec Ideal S8x1024x3584 .bf16) (e : Fin 8) (s : Fin 7) (h : cc0_transform_1 k0_off1_inb numel1_S1 inb_S1_S1_0 a.1 (grid0.coords t) = ![e.val, 0, s.val])
    (k : Fin 1024) (f : Fin 512) :
    (((cfg0 a).win 1).blk t).view.read (Elt Ideal) A (ix3 0 k f) = A (ix3 e k ⟨s.val * 512 + f.val, by omega⟩) := by
  have e : ((cfg0 a).win 1).index t = ![e.val, 0, s.val] := h
  blk_ext [e]

/-- The other projection's block. -/
theorem read2 (A : FVec Ideal S8x1024x3584 .bf16) (e : Fin 8) (s : Fin 7) (h : cc0_transform_1 k0_off1_inb numel1_S1 inb_S1_S1_0 a.1 (grid0.coords t) = ![e.val, 0, s.val])
    (k : Fin 1024) (f : Fin 512) :
    (((cfg0 a).win 2).blk t).view.read (Elt Ideal) A (ix3 0 k f) = A (ix3 e k ⟨s.val * 512 + f.val, by omega⟩) := by
  have e : ((cfg0 a).win 2).index t = ![e.val, 0, s.val] := h
  blk_ext [e]

/-- The down-projection's block. -/
theorem read3 (A : FVec Ideal S8x3584x1024 .bf16) (e : Fin 8) (s : Fin 7) (h : cc0_transform_3 k0_off1_inb numel1_S1 inb_S1_S1_0 a.1 (grid0.coords t) = ![e.val, s.val, 0])
    (f : Fin 512) (n : Fin 1024) :
    (((cfg0 a).win 3).blk t).view.read (Elt Ideal) A (ix3 0 f n) = A (ix3 e ⟨s.val * 512 + f.val, by omega⟩ n) := by
  have e : ((cfg0 a).win 3).index t = ![e.val, s.val, 0] := h
  blk_ext [e]

/-- Where the output's block lies. -/
theorem index4 : ((cfg0 a).win 4).index t = ![t.val / 7, 0] := by
  have e : ((cfg0 a).win 4).index t = cc0_transform_4 (grid0.coords t) := rfl
  have h := coords0 t
  have ht : t.val < 504 := Nat.lt_of_lt_of_eq t.isLt N_0
  rw [e]
  show ![(BitVec.ofNat 32 (grid0.coords t 0).val).toNat, (0#32).toNat] = _
  rw [h, BitVec.toNat_ofNat, Nat.mod_eq_of_lt (by omega)]
  rfl

/-- The output's blocks cover its array. -/
theorem covers4 : ((cfg0 a).win 4).Covers := by
  refine Pipeline.Window.covers_of_index_surj _ rfl (by decide : ∀ x : Fin 2, 0 < S1024x1024.size x) fun β => ?_
  have h0 : (β (0 : Fin 2)).val < 72 := Nat.lt_of_lt_of_le (β (0 : Fin 2)).isLt (by show (73728 + 1024 - 1) / 1024 ≤ 72; decide)
  have h1 : (β (1 : Fin 2)).val < 1 := Nat.lt_of_lt_of_le (β (1 : Fin 2)).isLt (by show (1024 + 1024 - 1) / 1024 ≤ 1; decide)
  refine ⟨⟨7 * (β (0 : Fin 2)).val, Nat.lt_of_lt_of_eq (by omega : _ < 504) N_0.symm⟩, fun x => ?_⟩
  rw [index4]
  match x with
  | ⟨0, _⟩ => show 7 * (β (0 : Fin 2)).val / 7 = (β (0 : Fin 2)).val; omega
  | ⟨1, _⟩ => show 0 = (β (1 : Fin 2)).val; omega

/-- The output is written back at the last point of each block. -/
theorem flush4 : ((cfg0 a).win 4).flush t = true ↔ t.val % 7 = 6 :=
  (fun t => Pipeline.Window.flushOf_reads cc0_transform_4 reads0_4 hreads0_4 0 (by decide) (by decide) (Pipeline.Window.sep_of_coord cc0_transform_4 0 0 (fun _ => rfl) (by decide)) (P := 7) (m := 6) (by decide) rfl t : ∀ t : Fin grid0.N, Pipeline.Window.flushOf grid0 true cc0_transform_4 t = true ↔ t.val % 7 = 6) t

/-- The result array after the run, from what each block's last point leaves. -/
theorem arr4 (c : Dev nD) (dat : Dat τ (Elt Ideal) Unit ℕ (UR sig nD τ) ℕ (cfg0 a) c) (G : FVec Ideal S73728x1024 .f32)
    (h : ∀ t : Fin grid0.N, t.val % 7 = 6 → ∀ r n : Fin 1024, (show FVec Ideal S1024x1024 .f32 from dat.after 4 t) (ix2 r n) = G (ix2 (rowOf (jOf t) r) n)) :
    dat.arrAt 4 (cfg0 a).N = G := by
  refine dat.arrAt_eq_of_covers 4 _ (covers4 a) fun t hf y => ?_
  have e := index4 a t
  have h1 := h t ((flush4 a t).mp hf)
  blk_simp
  refine (congrArg (show FVec Ideal S1024x1024 .f32 from dat.after 4 t) (eq_ix2 (show S1024x1024.Idx from y))).trans ?_
  refine (h1 ((show S1024x1024.Idx from y) 0) ((show S1024x1024.Idx from y) 1)).trans ?_
  refine congrArg G ?_
  blk_ext [e]

end Blocks

variable (m : (ℓ : Loc nD τ sig) → Buf (Elt Ideal) ℓ)

/-! ## The arrays the call finds -/

/-- The gate weights, at an element. -/
theorem V_wg (c : Dev nD) (e : Fin 8) (k : Fin 1024) (f : Fin 3584) : V m c main_v1 (ix3 e k f) = m ((c : Thread nD τ).loc main_arg3) (ix4 0 e k f) := by
  entry_read
  pointwise

/-- The other projection's weights, at an element. -/
theorem V_wu (c : Dev nD) (e : Fin 8) (k : Fin 1024) (f : Fin 3584) : V m c main_v3 (ix3 e k f) = m ((c : Thread nD τ).loc main_arg4) (ix4 0 e k f) := by
  entry_read
  pointwise

/-- The down-projection's weights, at an element. -/
theorem V_wd (c : Dev nD) (e : Fin 8) (f : Fin 3584) (n : Fin 1024) : V m c main_v5 (ix3 e f n) = m ((c : Thread nD τ).loc main_arg5) (ix4 0 e f n) := by
  entry_read
  pointwise

/-! ## The blocks of a used block's points -/

/-- The expert of a block. -/
abbrev exOf (hT : Tables m) (c : Dev nD) (j : Fin 72) : Fin 8 := ⟨(be m c j).toNat, (hT c).1 j⟩

/-- A block is used when its number is below the number of used blocks. -/
theorem used_iff (hT : Tables m) (t : Fin grid0.N) : used m t ↔ t.val / 7 < (nu m 0).toNat := by
  have ht : t.val < 504 := Nat.lt_of_lt_of_eq t.isLt N_0
  unfold used
  rw [usedC_iff, nU_eq, coords0]
  exact lt_word _ (by omega) _ (hT 0).2

/-- Where a used block's rows lie. -/
theorem ix0 (hT : Tables m) (t : Fin grid0.N) (hu : t.val / 7 < (nu m 0).toNat) :
    cc0_transform_0 inb_S1_S1_0 numel1_S1 (tbl m) (grid0.coords t) = ![(jOf t).val, 0] := by
  rw [tr0 (tbl m) (nu m 0) (tbl_nu m) (hT 0).2, coords0, Nat.min_eq_left (by omega)]

/-- A used block's expert, as the index maps find it. -/
theorem word_be (hT : Tables m) (t : Fin grid0.N) (hu : t.val / 7 < (nu m 0).toNat) :
    (show BitVec 32 from (tbl m).at 0 (Rect.unit (s := S72) (k0_off1 (grid0.coords t)) S1.size (k0_off1_inb (grid0.coords t))) numel1_S1).toNat
      = (exOf m hT 0 (jOf t)).val := by
  rw [tbl_be m (hT 0).2]
  refine congrArg (fun j => (be m 0 j).toNat) (Fin.ext ?_)
  show min (grid0.coords t 0).val ((nu m 0).toNat - 1) = t.val / 7
  rw [coords0, Nat.min_eq_left (by omega)]

/-- Where a used block's expert's gate tile lies. -/
theorem ix1' (hT : Tables m) (t : Fin grid0.N) (hu : t.val / 7 < (nu m 0).toNat) :
    cc0_transform_1 k0_off1_inb numel1_S1 inb_S1_S1_0 (tbl m) (grid0.coords t) = ![(exOf m hT 0 (jOf t)).val, 0, (sOf t).val] := by
  rw [tr1 (tbl m) (nu m 0) (tbl_nu m) (hT 0).2, word_be m hT t hu, coords0, if_pos hu, coords1]

/-- Where a used block's expert's down-projection tile lies. -/
theorem ix3' (hT : Tables m) (t : Fin grid0.N) (hu : t.val / 7 < (nu m 0).toNat) :
    cc0_transform_3 k0_off1_inb numel1_S1 inb_S1_S1_0 (tbl m) (grid0.coords t) = ![(exOf m hT 0 (jOf t)).val, (sOf t).val, 0] := by
  rw [tr3 (tbl m) (nu m 0) (tbl_nu m) (hT 0).2, word_be m hT t hu, coords0, if_pos hu, coords1]

/-- Hidden unit `f` of tile `s`. -/
abbrev unitOf (s : Fin 7) (f : Fin 512) : Fin 3584 := ⟨s.val * 512 + f.val, by omega⟩

variable (hO : Ok m) (hT : Tables m)
include hT

/-- The rows' block at a point of a used block. -/
theorem blk_x (t : Fin grid0.N) (hu : t.val / 7 < (nu m 0).toNat) (r k : Fin 1024) :
    iblk m hO 0 0 t (ix2 r k) = m (((0 : Dev nD) : Thread nD τ).loc main_arg2) (ix2 (rowOf (jOf t) r) k) :=
  (read0 (adm m hO) t (V m 0 main_arg2) (jOf t) (ix0 m hT t hu) r k).trans (congrFun (V_main_arg2 m 0) _)

/-- The gate's block at a point of a used block. -/
theorem blk_wg (t : Fin grid0.N) (hu : t.val / 7 < (nu m 0).toNat) (k : Fin 1024) (f : Fin 512) :
    iblk m hO 0 1 t (ix3 0 k f) = m (((0 : Dev nD) : Thread nD τ).loc main_arg3) (ix4 0 (exOf m hT 0 (jOf t)) k (unitOf (sOf t) f)) :=
  (read1 (adm m hO) t (V m 0 main_v1) _ _ (ix1' m hT t hu) k f).trans (V_wg m 0 _ _ _)

/-- The other projection's block at a point of a used block. -/
theorem blk_wu (t : Fin grid0.N) (hu : t.val / 7 < (nu m 0).toNat) (k : Fin 1024) (f : Fin 512) :
    iblk m hO 0 2 t (ix3 0 k f) = m (((0 : Dev nD) : Thread nD τ).loc main_arg4) (ix4 0 (exOf m hT 0 (jOf t)) k (unitOf (sOf t) f)) :=
  (read2 (adm m hO) t (V m 0 main_v3) _ _ (ix1' m hT t hu) k f).trans (V_wu m 0 _ _ _)

/-- The down-projection's block at a point of a used block. -/
theorem blk_wd (t : Fin grid0.N) (hu : t.val / 7 < (nu m 0).toNat) (f : Fin 512) (n : Fin 1024) :
    iblk m hO 0 3 t (ix3 0 f n) = m (((0 : Dev nD) : Thread nD τ).loc main_arg5) (ix4 0 (exOf m hT 0 (jOf t)) (unitOf (sOf t) f) n) :=
  (read3 (adm m hO) t (V m 0 main_v5) _ _ (ix3' m hT t hu) f n).trans (V_wd m 0 _ _ _)

/-- The first scratch at a point of a used block. -/
theorem xb_at (t : Fin grid0.N) (hu : t.val / 7 < (nu m 0).toNat) (r k : Fin 1024) :
    xbAt m hO 0 t (ix2 r k) = m (((0 : Dev nD) : Thread nD τ).loc main_arg2) (ix2 (rowOf (jOf t) r) k) := by
  have hq : (t.val - t.val % 7) / 7 = t.val / 7 := by omega
  have hj : jOf ⟨t.val - t.val % 7, Nat.lt_of_le_of_lt (Nat.sub_le _ _) t.isLt⟩ = jOf t := Fin.ext hq
  unfold xbAt
  refine (pay1_at _ _).trans ((blk_x m hO hT ⟨t.val - t.val % 7, Nat.lt_of_le_of_lt (Nat.sub_le _ _) t.isLt⟩ (by show (t.val - t.val % 7) / 7 < _; omega) r k).trans ?_)
  rw [hj]

/-! ## The sum over the tiles -/

omit hT in
/-- What hidden unit `f` adds to element `(r, n)` of block `j`, in the reference. -/
def unitTerm (j : Fin 72) (r n : Fin 1024) (f : Fin 3584) : EReal :=
  refHid (refDot (m (((0 : Dev nD) : Thread nD τ).loc main_arg2)) (refW (m (((0 : Dev nD) : Thread nD τ).loc main_arg3)) (m (((0 : Dev nD) : Thread nD τ).loc main_arg0))))
      (refDot (m (((0 : Dev nD) : Thread nD τ).loc main_arg2)) (refW (m (((0 : Dev nD) : Thread nD τ).loc main_arg4)) (m (((0 : Dev nD) : Thread nD τ).loc main_arg0)))) (ix3 j r f)
    * refD (m (((0 : Dev nD) : Thread nD τ).loc main_arg5)) (m (((0 : Dev nD) : Thread nD τ).loc main_arg0)) (ix3 j f n)

omit hT in
/-- What tile `s` adds. -/
def tileTerm (j : Fin 72) (r n : Fin 1024) (s : ℕ) : EReal :=
  if h : s < 7 then ∑ f : Fin 512, unitTerm m j r n (unitOf ⟨s, h⟩ f) else 0

omit hT in
/-- The tiles' sums make up the sum over the hidden units. -/
theorem sum_tiles (j : Fin 72) (r n : Fin 1024) : ∑ s ∈ Finset.range 7, tileTerm m j r n s = ∑ f : Fin 3584, unitTerm m j r n f := by
  rw [Finset.sum_range, ← (finProdFinEquiv (m := 7) (n := 512)).sum_comp (fun f : Fin (7 * 512) => unitTerm m j r n f), Fintype.sum_prod_type]
  refine Finset.sum_congr rfl fun s _ => ?_
  unfold tileTerm
  rw [dif_pos s.isLt]
  refine Finset.sum_congr rfl fun f _ => congrArg _ (Fin.ext ?_)
  show s.val * 512 + f.val = f.val + 512 * s.val
  omega

/-- A point of a used block adds its tile. -/
theorem part_eq (t : Fin grid0.N) (hu : t.val / 7 < (nu m 0).toNat) (r n : Fin 1024) :
    part (xbAt m hO 0 t) (iblk m hO 0 1 t) (iblk m hO 0 2 t) (iblk m hO 0 3 t) r n = tileTerm m (jOf t) r n (t.val % 7) := by
  unfold tileTerm
  rw [dif_pos (Nat.mod_lt _ (by decide))]
  refine (part_congr _ _ _ _ r n _ _ _ _ (fun k => xb_at m hO hT t hu r k) (fun k f => blk_wg m hO hT t hu k f)
    (fun k f => blk_wu m hO hT t hu k f) (fun f => blk_wd m hO hT t hu f n)).trans ?_
  refine Finset.sum_congr rfl fun f _ => ?_
  unfold unitTerm
  rw [refHid_at, refDot_at, refDot_at, refD_at _ _ _ ((hT 0).1 (jOf t))]
  simp only [refW_at _ _ _ ((hT 0).1 (jOf t))]

/-- The accumulator after a point of a used block: the tiles so far. -/
theorem acc_at (r n : Fin 1024) (s : ℕ) : ∀ t : Fin grid0.N, t.val % 7 = s → t.val / 7 < (nu m 0).toNat →
    accAt m hO 0 t.val t.isLt (ix2 r n) = ∑ k ∈ Finset.range (s + 1), tileTerm m (jOf t) r n k := by
  induction s with
  | zero =>
    intro t h hu
    rw [accAt_first m hO 0 t h]
    refine (pay3_at _ _ _ _ _ r n).trans ?_
    rw [part_eq m hO hT t hu, pay2_at, zero_add, h]
    simp
  | succ s ih =>
    intro t h hu
    have hp : t.val - 1 < grid0.N := Nat.lt_of_le_of_lt (Nat.sub_le _ _) t.isLt
    have hj : jOf ⟨t.val - 1, hp⟩ = jOf t := Fin.ext (by show (t.val - 1) / 7 = t.val / 7; omega)
    rw [accAt_step m hO 0 t (by omega) hp]
    refine (pay3_at _ _ _ _ _ r n).trans ?_
    rw [part_eq m hO hT t hu, Finset.sum_range_succ, h]
    refine congrArg (· + _) ((ih ⟨t.val - 1, hp⟩ (by show (t.val - 1) % 7 = s; omega) (by show (t.val - 1) / 7 < _; omega)).trans ?_)
    rw [hj]

/-- What a block's last point writes back is the reference's block. -/
theorem rows_eq (t : Fin grid0.N) (h : t.val % 7 = 6) (r n : Fin 1024) :
    yAt m hO 0 t (ix2 r n) = REF (m (((0 : Dev nD) : Thread nD τ).loc main_arg0)) (m (((0 : Dev nD) : Thread nD τ).loc main_arg1))
      (m (((0 : Dev nD) : Thread nD τ).loc main_arg2)) (m (((0 : Dev nD) : Thread nD τ).loc main_arg3))
      (m (((0 : Dev nD) : Thread nD τ).loc main_arg4)) (m (((0 : Dev nD) : Thread nD τ).loc main_arg5)) (ix2 (rowOf (jOf t) r) n) := by
  have ht : t.val < 504 := Nat.lt_of_lt_of_eq t.isLt N_0
  have hl := lt_word (t.val / 7) (by omega) (nu m 0) (hT 0).2
  unfold REF
  rw [refOut_at]
  unfold yAt
  rw [BitVec.slt_eq_decide]
  by_cases hu : t.val / 7 < (nu m 0).toNat
  · rw [if_pos ((used_iff m hT t).mpr hu), decide_eq_true (hl.mpr hu), if_pos (by decide), acc_at m hO hT r n 6 t h hu]
    exact sum_tiles m (jOf t) r n
  · rw [if_neg (fun p => hu ((used_iff m hT t).mp p)), decide_eq_false (fun p => hu (hl.mp p)), if_neg (by decide)]
    exact pay4_at _

/-- The result array after the run is the reference's result. -/
theorem final (c : Dev nD) : (dats m hO 0 c).arrAt 4 (cfgM m hO).N
    = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  obtain rfl : c = 0 := Subsingleton.elim _ _
  exact arr4 (adm m hO) 0 (dats m hO 0 0) _ fun t h r n => (congrFun (after_4 m hO 0 t) _).trans (rows_eq m hO hT t h r n)

/-- The call runs, ends with the reference's result and keeps its arguments. -/
theorem run_value (g : Dev nD → PrngReg) :
    θ_run (defs (F := Ideal)) (onTc (τ := τ) (main (F := Ideal))) ⟨m, fun _ => 0, g⟩ (fun r => ∀ c : Dev nD,
      r.2.mem ((c.tc : Thread nD τ).loc main_v18) = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  have hO := ok_of_tables m hT
  (θ_run defs _ _).mono (fun r h c => ⟨((h.1 c).1 4).trans (final m hO hT c), h.2.1 c⟩) (θ_run_and (run_main m g hO) (frame m g hO))

end Cert.Kernel3Ideal.Expert

end
-- ==== Proof.OutRef.lean ====
/- The second layer's output projection, the reference at an element. -/
module

public import proofs.«01_k».proof.Proof.Gen.Reference4Ideal
public import proofs.«01_k».proof.Proof.Gen.Reference4Ideal.Run
public import Idealize.ShloMosaic.Lib.Pointwise

@[expose] public section

set_option maxRecDepth 16384

noncomputable section

namespace Cert.Reference4Ideal.Out

open Cert.Reference4Ideal Cert.Reference4Ideal.Gen Idealize.ShloMosaic Idealize.ShloMosaic.TcCoe Idealize.SL.Sem

/-- The rows of the attention beside the rows of the memory attention. -/
def refMix (O : FVec Ideal S32768x768 .bf16) (M : FVec Ideal S32768x256 .bf16) : FVec Ideal S32768x1024 .f32 :=
  concatenate S32768x1024 1 [⟨S32768x768, (extf .f32 O bitsLt_bf16_f32)⟩, ⟨S32768x256, (extf .f32 M bitsLt_bf16_f32)⟩] concatenates_S32768x768_S32768x256_S32768x1024_d1

/-- The reference's result from its arguments. -/
def REF (X : FVec Ideal S32768x1024 .f32) (O : FVec Ideal S32768x768 .bf16) (M : FVec Ideal S32768x256 .bf16)
    (W : FVec Ideal S2x1024x1024 .f32) : FVec Ideal S32768x1024 .f32 :=
  addf X (Host.dotGeneral dot_S32768x1024_S1024x1024_S32768x1024_1_0_0_1_n_n none (refMix O M) (shapeCast _ (extractStridedSlice S1x1024x1024 ![1, 0, 0] W slices_S2x1024x1024_S1x1024x1024_1_0_0) shapeCasts_S1x1024x1024_S1024x1024))

/-- The first 768 columns are the attention's. -/
theorem refMix_left (O : FVec Ideal S32768x768 .bf16) (M : FVec Ideal S32768x256 .bf16) (r : Fin 32768) (k : Fin 768) :
    refMix O M (ix2 r ⟨k.val, by omega⟩) = O (ix2 r k) := by
  pointwise [refMix]

/-- The last 256 columns are the memory attention's. -/
theorem refMix_right (O : FVec Ideal S32768x768 .bf16) (M : FVec Ideal S32768x256 .bf16) (r : Fin 32768) (k : Fin 256) :
    refMix O M (ix2 r ⟨768 + k.val, by omega⟩) = M (ix2 r k) := by
  pointwise [refMix]

/-- A sum over 1024 columns, the first 768 and the last 256. -/
theorem sum_cols (f : Fin 1024 → EReal) :
    ∑ i, f i = (∑ i : Fin 768, f ⟨i.val, by omega⟩) + ∑ i : Fin 256, f ⟨768 + i.val, by omega⟩ :=
  Fin.sum_univ_add (a := 768) (b := 256) f

/-- One element of the result, over the columns of the two kinds of rows side by side. -/
theorem REF_dot (X : FVec Ideal S32768x1024 .f32) (O : FVec Ideal S32768x768 .bf16) (M : FVec Ideal S32768x256 .bf16)
    (W : FVec Ideal S2x1024x1024 .f32) (r : Fin 32768) (n : Fin 1024) :
    REF X O M W (ix2 r n) = X (ix2 r n) + ∑ k : Fin 1024, refMix O M (ix2 r k) * W (ix3 1 k n) := by
  pointwise [REF]

/-- One element of the result. -/
theorem REF_at (X : FVec Ideal S32768x1024 .f32) (O : FVec Ideal S32768x768 .bf16) (M : FVec Ideal S32768x256 .bf16)
    (W : FVec Ideal S2x1024x1024 .f32) (r : Fin 32768) (n : Fin 1024) :
    REF X O M W (ix2 r n) = X (ix2 r n) + ((∑ k : Fin 768, (O (ix2 r k) : EReal) * W (ix3 1 ⟨k.val, by omega⟩ n))
      + ∑ k : Fin 256, (M (ix2 r k) : EReal) * W (ix3 1 ⟨768 + k.val, by omega⟩ n)) := by
  rw [REF_dot, sum_cols]
  simp only [refMix_left, refMix_right]

/-- The reference's run ends with the result named, its arguments kept. -/
theorem run_value (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v6) = REF (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  unfold REF refMix
  exact Cert.Reference4Ideal.Value.run m g

end Cert.Reference4Ideal.Out

end
-- ==== Proof.OutValue.lean ====
/- The second layer's output projection, the kernel's result. -/
module

public import proofs.«01_k».proof.Proof.OutRef
public import proofs.«01_k».proof.Proof.Gen.Kernel4Ideal.Frame
public import Idealize.ShloMosaic.Lib.Pipeline.ValueKit
public import Idealize.ShloMosaic.Lib.Pipeline.ReadBack

@[expose] public section

set_option maxRecDepth 16384

noncomputable section

namespace Cert.Kernel4Ideal.Out

open Cert.Kernel4Ideal Cert.Kernel4Ideal.Gen Idealize.ShloMosaic Idealize.ShloMosaic.TcCoe Idealize.SL.Sem
open Idealize.ShloMosaic.Pipeline (Dat)

open Cert.Reference4Ideal.Out (REF REF_at)

/-- One block of rows after the body, at an element. -/
theorem pay1_at (x : FVec Ideal S512x1024 .f32) (o : FVec Ideal S512x768 .bf16) (w1 : FVec Ideal S768x1024 .bf16) (mm : FVec Ideal S512x256 .bf16)
    (w2 : FVec Ideal S256x1024 .bf16) (r : Fin 512) (n : Fin 1024) :
    k0_pay1 (F := Ideal) x o w1 mm w2 (ix2 r n) = ((x (ix2 r n) : EReal) + ∑ k : Fin 768, (o (ix2 r k) : EReal) * w1 (ix2 k n))
      + ∑ k : Fin 256, (mm (ix2 r k) : EReal) * w2 (ix2 k n) := by
  pointwise [k0_pay1]

variable (m : (ℓ : Loc nD τ sig) → Buf (Elt Ideal) ℓ)

/-- Where each window's block lies at each point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

/-- The attention's weight the region finds, at an element. -/
theorem V_w1 (c : Dev nD) (k : Fin 768) (n : Fin 1024) : V m c main_v3 (ix2 k n) = m ((c : Thread nD τ).loc main_arg3) (ix3 1 ⟨k.val, by omega⟩ n) := by
  entry_read
  pointwise

/-- The memory attention's weight the region finds, at an element. -/
theorem V_w2 (c : Dev nD) (k : Fin 256) (n : Fin 1024) : V m c main_v7 (ix2 k n) = m ((c : Thread nD τ).loc main_arg3) (ix3 1 ⟨768 + k.val, by omega⟩ n) := by
  entry_read
  pointwise

/-- A row of block `t`, among all rows. -/
abbrev rowOf (t : Fin cfg0.N) (r : Fin 512) : Fin 32768 := ⟨t.val * 512 + r.val, by
  have h := lt_of_lt_of_eq t.isLt (show cfg0.N = 64 from N_0); omega⟩

/-- The rows' block at a point. -/
theorem blk_x (c : Dev nD) (t : Fin cfg0.N) (r : Fin 512) (k : Fin 1024) :
    iblk m c 0 t (ix2 r k) = m ((c : Thread nD τ).loc main_arg0) (ix2 (rowOf t r) k) := by
  blk_ext [iblk, V, idx t]

/-- The attention rows' block at a point. -/
theorem blk_o (c : Dev nD) (t : Fin cfg0.N) (r : Fin 512) (k : Fin 768) :
    iblk m c 1 t (ix2 r k) = m ((c : Thread nD τ).loc main_arg1) (ix2 (rowOf t r) k) := by
  blk_ext [iblk, V, idx t]

/-- The memory attention rows' block at a point. -/
theorem blk_m (c : Dev nD) (t : Fin cfg0.N) (r : Fin 512) (k : Fin 256) :
    iblk m c 2 t (ix2 r k) = m ((c : Thread nD τ).loc main_arg2) (ix2 (rowOf t r) k) := by
  blk_ext [iblk, V, idx t]

/-- The attention's weight at a point. -/
theorem blk_w1 (c : Dev nD) (t : Fin cfg0.N) (k : Fin 768) (n : Fin 1024) :
    iblk m c 3 t (ix2 k n) = m ((c : Thread nD τ).loc main_arg3) (ix3 1 ⟨k.val, by omega⟩ n) := by
  rw [← V_w1 m c k n]
  blk_ext [iblk, idx t]

/-- The memory attention's weight at a point. -/
theorem blk_w2 (c : Dev nD) (t : Fin cfg0.N) (k : Fin 256) (n : Fin 1024) :
    iblk m c 4 t (ix2 k n) = m ((c : Thread nD τ).loc main_arg3) (ix3 1 ⟨768 + k.val, by omega⟩ n) := by
  rw [← V_w2 m c k n]
  blk_ext [iblk, idx t]

/-- A block of rows is the reference's. -/
theorem rows_eq (c : Dev nD) (t : Fin cfg0.N) (r : Fin 512) (n : Fin 1024) :
    k0_pay1 (F := Ideal) (iblk m c 0 t) (iblk m c 1 t) (iblk m c 3 t) (iblk m c 2 t) (iblk m c 4 t) (ix2 r n)
    = REF (m ((c : Thread nD τ).loc main_arg0)) (m ((c : Thread nD τ).loc main_arg1)) (m ((c : Thread nD τ).loc main_arg2))
      (m ((c : Thread nD τ).loc main_arg3)) (ix2 (rowOf t r) n) := by
  rw [pay1_at, REF_at]
  simp only [blk_x, blk_o, blk_m, blk_w1, blk_w2]
  exact add_assoc _ _ _

/-- The result array after the run is the reference's result. -/
theorem final (c : Dev nD) : (dats m 0 c).arrAt 5 cfg0.N
    = REF (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t hf y => ?_
  blk_simp
  rw [after0_5, eq_ix2 y]
  refine Eq.trans ?_ ((rows_eq m c t (y 0) (y 1)).trans ?_)
  · unfold out0_5
    frame_out
  · refine congrArg _ ?_
    blk_ext [idx t]

end Cert.Kernel4Ideal.Out

end
-- ==== Proof.OutPadRef.lean ====
/- The first layer's output projection, the reference at an element. -/
module

public import proofs.«01_k».proof.Proof.Gen.Reference5Ideal
public import proofs.«01_k».proof.Proof.Gen.Reference5Ideal.Run
public import Idealize.ShloMosaic.Lib.Pointwise

@[expose] public section

set_option maxRecDepth 16384

noncomputable section

namespace Cert.Reference5Ideal.Out

open Cert.Reference5Ideal Cert.Reference5Ideal.Gen Idealize.ShloMosaic Idealize.ShloMosaic.TcCoe Idealize.SL.Sem

/-- Where column `k` of the heads lies when each head has 256 columns, 192 of them used. -/
abbrev laneOf (k : Fin 768) : Fin 1024 := ⟨k.val / 192 * 256 + k.val % 192, by omega⟩

/-- The rows of the gated linear attention beside the rows of the memory attention. -/
def refMix (O : FVec Ideal S32768x1024 .bf16) (M : FVec Ideal S32768x256 .bf16) : FVec Ideal S32768x1024 .f32 :=
  concatenate S32768x1024 1 [⟨S32768x768, (shapeCast _ (extractStridedSlice S32768x4x192 ![0, 0, 0] (shapeCast _ (extf .f32 O bitsLt_bf16_f32) shapeCasts_S32768x1024_S32768x4x256) slices_S32768x4x256_S32768x4x192_0_0_0) shapeCasts_S32768x4x192_S32768x768)⟩, ⟨S32768x256, (extf .f32 M bitsLt_bf16_f32)⟩] concatenates_S32768x768_S32768x256_S32768x1024_d1

/-- The reference's result from its arguments. -/
def REF (X : FVec Ideal S32768x1024 .f32) (O : FVec Ideal S32768x1024 .bf16) (M : FVec Ideal S32768x256 .bf16)
    (W : FVec Ideal S2x1024x1024 .f32) : FVec Ideal S32768x1024 .f32 :=
  addf X (Host.dotGeneral dot_S32768x1024_S1024x1024_S32768x1024_1_0_0_1_n_n none (refMix O M) (shapeCast _ (extractStridedSlice S1x1024x1024 ![0, 0, 0] W slices_S2x1024x1024_S1x1024x1024_0_0_0) shapeCasts_S1x1024x1024_S1024x1024))

/-- The first 768 columns are the gated linear attention's. -/
theorem refMix_left (O : FVec Ideal S32768x1024 .bf16) (M : FVec Ideal S32768x256 .bf16) (r : Fin 32768) (k : Fin 768) :
    refMix O M (ix2 r ⟨k.val, by omega⟩) = O (ix2 r (laneOf k)) := by
  pointwise [refMix]

/-- The last 256 columns are the memory attention's. -/
theorem refMix_right (O : FVec Ideal S32768x1024 .bf16) (M : FVec Ideal S32768x256 .bf16) (r : Fin 32768) (k : Fin 256) :
    refMix O M (ix2 r ⟨768 + k.val, by omega⟩) = M (ix2 r k) := by
  pointwise [refMix]

/-- A sum over 1024 columns, the first 768 and the last 256. -/
theorem sum_cols (f : Fin 1024 → EReal) :
    ∑ i, f i = (∑ i : Fin 768, f ⟨i.val, by omega⟩) + ∑ i : Fin 256, f ⟨768 + i.val, by omega⟩ :=
  Fin.sum_univ_add (a := 768) (b := 256) f

/-- One element of the result, over the columns of the two kinds of rows side by side. -/
theorem REF_dot (X : FVec Ideal S32768x1024 .f32) (O : FVec Ideal S32768x1024 .bf16) (M : FVec Ideal S32768x256 .bf16)
    (W : FVec Ideal S2x1024x1024 .f32) (r : Fin 32768) (n : Fin 1024) :
    REF X O M W (ix2 r n) = X (ix2 r n) + ∑ k : Fin 1024, refMix O M (ix2 r k) * W (ix3 0 k n) := by
  pointwise [REF]

/-- One element of the result. -/
theorem REF_at (X : FVec Ideal S32768x1024 .f32) (O : FVec Ideal S32768x1024 .bf16) (M : FVec Ideal S32768x256 .bf16)
    (W : FVec Ideal S2x1024x1024 .f32) (r : Fin 32768) (n : Fin 1024) :
    REF X O M W (ix2 r n) = X (ix2 r n) + ((∑ k : Fin 768, (O (ix2 r (laneOf k)) : EReal) * W (ix3 0 ⟨k.val, by omega⟩ n))
      + ∑ k : Fin 256, (M (ix2 r k) : EReal) * W (ix3 0 ⟨768 + k.val, by omega⟩ n)) := by
  rw [REF_dot, sum_cols]
  simp only [refMix_left, refMix_right]

/-- The reference's run ends with the result named, its arguments kept. -/
theorem run_value (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v9) = REF (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  unfold REF refMix
  exact Cert.Reference5Ideal.Value.run m g

end Cert.Reference5Ideal.Out

end
-- ==== Proof.OutPadValue.lean ====
/- The first layer's output projection, the kernel's result. -/
module

public import proofs.«01_k».proof.Proof.OutPadRef
public import proofs.«01_k».proof.Proof.Gen.Kernel5Ideal.Frame
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Kernel5Ideal.Out

open Cert.Kernel5Ideal Cert.Kernel5Ideal.Gen Idealize.ShloMosaic Idealize.ShloMosaic.TcCoe Idealize.SL.Sem
open Idealize.ShloMosaic.Pipeline (Dat)

open Cert.Reference5Ideal.Out (REF REF_at laneOf)

/-- One block of rows after the body, at an element. -/
theorem pay1_at (x : FVec Ideal S512x1024 .f32) (o : FVec Ideal S512x1024 .bf16) (w1 : FVec Ideal S1024x1024 .bf16) (mm : FVec Ideal S512x256 .bf16)
    (w2 : FVec Ideal S256x1024 .bf16) (r : Fin 512) (n : Fin 1024) :
    k0_pay1 (F := Ideal) x o w1 mm w2 (ix2 r n) = ((x (ix2 r n) : EReal) + ∑ k : Fin 1024, (o (ix2 r k) : EReal) * w1 (ix2 k n))
      + ∑ k : Fin 256, (mm (ix2 r k) : EReal) * w2 (ix2 k n) := by
  pointwise [k0_pay1]

variable (m : (ℓ : Loc nD τ sig) → Buf (Elt Ideal) ℓ)

/-- Where each window's block lies at each point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

/-- The padding value is zero. -/
theorem pad_zero : (FloatOps.sitofp (F := Ideal) .f32 (0#32) : EReal) = 0 := by
  show (((0#32 : BitVec 32).toInt : ℝ) : EReal) = 0
  simp

/-- The weight's first 768 rows, head by head. -/
def headW (W : FVec Ideal S2x1024x1024 .f32) : FVec Ideal S4x192x1024 .f32 :=
  shapeCast S4x192x1024 (extractStridedSlice S768x1024 ![0, 0] (shapeCast S1024x1024 (extractStridedSlice S1x1024x1024 ![0, 0, 0] W slices_S2x1024x1024_S1x1024x1024_0_0_0) shapeCasts_S1x1024x1024_S1024x1024) slices_S1024x1024_S768x1024_0_0) shapeCasts_S768x1024_S4x192x1024

/-- The weight's first 768 rows, each head's 192 followed by 64 rows of zeros. -/
def padW (W : FVec Ideal S2x1024x1024 .f32) : FVec Ideal S1024x1024 .bf16 :=
  truncf .bf16 (shapeCast S1024x1024 (pad S4x256x1024 ![0, 0, 0] ![0, 64, 0] ![0, 0, 0] (headW W) (sitofp (F := Ideal) .f32 (constantI S_ 32 0#32)) pads_S4x192x1024_S4x256x1024_000_0640_000 h_S_) shapeCasts_S4x256x1024_S1024x1024) bitsLt_bf16_f32

/-- The host lines after the padding. -/
theorem seg2 (X : Valuation τ sig (Elt Ideal)) : StableHlo.after (hostOps0_2 (F := Ideal)) X (Proc.devRef .tc main_v6)
    = (truncf (F := Ideal) .bf16 (shapeCast S1024x1024 (X (Proc.devRef .tc main_v4)) shapeCasts_S4x256x1024_S1024x1024) bitsLt_bf16_f32 : FVec Ideal S1024x1024 .bf16) := by
  after_reads_simp
  rfl

/-- The padding's lines. -/
theorem seg1 (X : Valuation τ sig (Elt Ideal)) : StableHlo.after (hostOps0_1 (F := Ideal)) X (Proc.devRef .tc main_v4)
    = pad S4x256x1024 ![0, 0, 0] ![0, 64, 0] ![0, 0, 0] (X (Proc.devRef .tc main_v3)) (sitofp (F := Ideal) .f32 (X (Proc.devRef .tc main_c))) pads_S4x192x1024_S4x256x1024_000_0640_000 h_S_ := by
  after_reads_simp
  rfl

/-- The padding value's line. -/
theorem seg0c (X : Valuation τ sig (Elt Ideal)) : StableHlo.after (hostOps0 (F := Ideal)) X (Proc.devRef .tc main_c) = constantI S_ 32 0#32 := by
  after_reads_simp

/-- The lines before the padding. -/
theorem seg0 (X : Valuation τ sig (Elt Ideal)) : StableHlo.after (hostOps0 (F := Ideal)) X (Proc.devRef .tc main_v3) = headW (X (Proc.devRef .tc main_arg3)) := by
  unfold headW
  after_reads_simp
  rfl

/-- The padded weight the region finds. -/
theorem V_padW (c : Dev nD) : V m c main_v6 = padW (m ((c : Thread nD τ).loc main_arg3)) := by
  have hc := seg0 (fun b => m (c, b))
  have hz := seg0c (fun b => m (c, b))
  have h1 := seg1 (StableHlo.after (hostOps0 (F := Ideal)) (fun b => m (c, b)))
  rw [hc, hz] at h1
  have h2 := seg2 (StableHlo.after (hostOps0_1 (F := Ideal)) (StableHlo.after (hostOps0 (F := Ideal)) (fun b => m (c, b))))
  rw [h1] at h2
  exact h2

/-- One row of the padded weight. -/
theorem padW_at (W : FVec Ideal S2x1024x1024 .f32) (h : Fin 4) (e : Fin 256) (n : Fin 1024) :
    (padW W (ix2 ⟨h.val * 256 + e.val, by omega⟩ n) : EReal) = if he : e.val < 192 then (W (ix3 0 ⟨h.val * 192 + e.val, by omega⟩ n) : EReal) else 0 := by
  pointwise [padW, headW, pad_zero]

/-- The gated linear attention's weight the region finds, a used row. -/
theorem V_w1 (c : Dev nD) (k : Fin 768) (n : Fin 1024) : V m c main_v6 (ix2 (laneOf k) n) = (m ((c : Thread nD τ).loc main_arg3) (ix3 0 ⟨k.val, by omega⟩ n) : EReal) := by
  rw [V_padW]
  refine (padW_at _ ⟨k.val / 192, by omega⟩ ⟨k.val % 192, by omega⟩ n).trans ?_
  rw [dif_pos (by show k.val % 192 < 192; omega)]
  exact congrArg (fun i : Fin 1024 => (m ((c : Thread nD τ).loc main_arg3) (ix3 0 i n) : EReal)) (Fin.ext (by show k.val / 192 * 192 + k.val % 192 = k.val; omega))

/-- The gated linear attention's weight the region finds, a row past a head's columns. -/
theorem V_w1_zero (c : Dev nD) (h : Fin 4) (e : Fin 64) (n : Fin 1024) : V m c main_v6 (ix2 ⟨h.val * 256 + (192 + e.val), by omega⟩ n) = (0 : EReal) := by
  rw [V_padW]
  refine (padW_at _ h ⟨192 + e.val, by omega⟩ n).trans ?_
  rw [dif_neg (by show ¬ 192 + e.val < 192; omega)]

/-- The memory attention's weight the region finds, at an element. -/
theorem V_w2 (c : Dev nD) (k : Fin 256) (n : Fin 1024) : V m c main_v10 (ix2 k n) = m ((c : Thread nD τ).loc main_arg3) (ix3 0 ⟨768 + k.val, by omega⟩ n) := by
  simp only [V, hostOps0, hostOps0_1, hostOps0_2, List.flatten_cons, List.flatten_nil, List.append_nil, List.cons_append, List.nil_append]
  entry_read
  pointwise

/-- A row of block `t`, among all rows. -/
abbrev rowOf (t : Fin cfg0.N) (r : Fin 512) : Fin 32768 := ⟨t.val * 512 + r.val, by
  have h := lt_of_lt_of_eq t.isLt (show cfg0.N = 64 from N_0); omega⟩

/-- The rows' block at a point. -/
theorem blk_x (c : Dev nD) (t : Fin cfg0.N) (r : Fin 512) (k : Fin 1024) :
    iblk m c 0 t (ix2 r k) = m ((c : Thread nD τ).loc main_arg0) (ix2 (rowOf t r) k) := by
  blk_ext [iblk, V, idx t]

/-- The gated linear attention rows' block at a point. -/
theorem blk_o (c : Dev nD) (t : Fin cfg0.N) (r : Fin 512) (k : Fin 1024) :
    iblk m c 1 t (ix2 r k) = m ((c : Thread nD τ).loc main_arg1) (ix2 (rowOf t r) k) := by
  blk_ext [iblk, V, idx t]

/-- The memory attention rows' block at a point. -/
theorem blk_m (c : Dev nD) (t : Fin cfg0.N) (r : Fin 512) (k : Fin 256) :
    iblk m c 2 t (ix2 r k) = m ((c : Thread nD τ).loc main_arg2) (ix2 (rowOf t r) k) := by
  blk_ext [iblk, V, idx t]

/-- The gated linear attention's weight at a point, a used row. -/
theorem blk_w1 (c : Dev nD) (t : Fin cfg0.N) (k : Fin 768) (n : Fin 1024) :
    iblk m c 3 t (ix2 (laneOf k) n) = m ((c : Thread nD τ).loc main_arg3) (ix3 0 ⟨k.val, by omega⟩ n) := by
  rw [← V_w1 m c k n]
  blk_ext [iblk, idx t]

/-- The gated linear attention's weight at a point, a row past a head's columns. -/
theorem blk_w1_zero (c : Dev nD) (t : Fin cfg0.N) (h : Fin 4) (e : Fin 64) (n : Fin 1024) :
    iblk m c 3 t (ix2 ⟨h.val * 256 + (192 + e.val), by omega⟩ n) = (0 : EReal) := by
  rw [← V_w1_zero m c h e n]
  blk_ext [iblk, idx t]

/-- The memory attention's weight at a point. -/
theorem blk_w2 (c : Dev nD) (t : Fin cfg0.N) (k : Fin 256) (n : Fin 1024) :
    iblk m c 4 t (ix2 k n) = m ((c : Thread nD τ).loc main_arg3) (ix3 0 ⟨768 + k.val, by omega⟩ n) := by
  rw [← V_w2 m c k n]
  blk_ext [iblk, idx t]

/-- A sum over four heads of 256 columns, zero past the first 192 of each, is the sum over the used columns. -/
theorem sum_heads (f : Fin 1024 → EReal) (h0 : ∀ (h : Fin 4) (e : Fin 64), f ⟨h.val * 256 + (192 + e.val), by omega⟩ = 0) :
    ∑ i, f i = ∑ k : Fin 768, f (laneOf k) := by
  refine ((finProdFinEquiv (m := 4) (n := 256)).sum_comp (fun i : Fin (4 * 256) => f i)).symm.trans ?_
  refine Eq.trans ?_ ((finProdFinEquiv (m := 4) (n := 192)).sum_comp (fun k : Fin (4 * 192) => f (laneOf k)))
  rw [Fintype.sum_prod_type, Fintype.sum_prod_type]
  refine Finset.sum_congr rfl fun h _ => ?_
  refine (Fin.sum_univ_add (a := 192) (b := 64) (fun e : Fin 256 => f (finProdFinEquiv (m := 4) (n := 256) (h, e)))).trans ?_
  rw [Finset.sum_eq_zero (s := (Finset.univ : Finset (Fin 64))), add_zero]
  · refine Finset.sum_congr rfl fun e _ => congrArg f (Fin.ext ?_)
    show e.val + 256 * h.val = (e.val + 192 * h.val) / 192 * 256 + (e.val + 192 * h.val) % 192
    omega
  · intro e _
    refine Eq.trans (congrArg f (Fin.ext ?_)) (h0 h e)
    show 192 + e.val + 256 * h.val = h.val * 256 + (192 + e.val)
    omega

/-- A block of rows is the reference's. -/
theorem rows_eq (c : Dev nD) (t : Fin cfg0.N) (r : Fin 512) (n : Fin 1024) :
    k0_pay1 (F := Ideal) (iblk m c 0 t) (iblk m c 1 t) (iblk m c 3 t) (iblk m c 2 t) (iblk m c 4 t) (ix2 r n)
    = REF (m ((c : Thread nD τ).loc main_arg0)) (m ((c : Thread nD τ).loc main_arg1)) (m ((c : Thread nD τ).loc main_arg2))
      (m ((c : Thread nD τ).loc main_arg3)) (ix2 (rowOf t r) n) := by
  rw [pay1_at, REF_at, sum_heads _ fun h e => by rw [blk_w1_zero, mul_zero]]
  simp only [blk_x, blk_o, blk_m, blk_w1, blk_w2]
  exact add_assoc _ _ _

/-- The result array after the run is the reference's result. -/
theorem final (c : Dev nD) : (dats m 0 c).arrAt 5 cfg0.N
    = REF (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t hf y => ?_
  blk_simp
  rw [after0_5, eq_ix2 y]
  refine Eq.trans ?_ ((rows_eq m c t (y 0) (y 1)).trans ?_)
  · unfold out0_5
    frame_out
  · refine congrArg _ ?_
    blk_ext [idx t]

end Cert.Kernel5Ideal.Out

end
-- ==== Proof.lean ====
/-
  The proof of `Cert.Claim`: the frames of every program, the named mask of the attention kernel, the attention kernel equal to its
  reference where the arguments are finite, the dense feed-forward kernel equal to its reference, the experts' kernel equal to its
  reference where the tables are in range, and the output projections of both layers equal to their references.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.ReferenceIdeal.Run
public import proofs.«01_k».proof.Proof.FfnValue
public import proofs.«01_k».proof.Proof.AttnPre
public import proofs.«01_k».proof.Proof.AttnRun
public import proofs.«01_k».proof.Proof.AttnValue
public import proofs.«01_k».proof.Proof.ExpertTable
public import proofs.«01_k».proof.Proof.ExpertValue
public import Idealize.ShloMosaic.Lib.Claim
public import proofs.«01_k».proof.Proof.Gen.Reference2Ideal.Run
public import proofs.«01_k».proof.Proof.Gen.Kernel3.Launch
public import proofs.«01_k».proof.Proof.Gen.Kernel3.Skeleton
public import proofs.«01_k».proof.Proof.Gen.Kernel3Ideal.Launch
public import proofs.«01_k».proof.Proof.Gen.Kernel3Ideal.Skeleton
public import proofs.«01_k».proof.Proof.Gen.Reference3Ideal.Run
public import proofs.«01_k».proof.Proof.Gen.Pre_tables
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.OutValue
public import proofs.«01_k».proof.Proof.OutPadValue
public import Idealize.ShloMosaic.Adequacy
public import Idealize.ShloMosaic.Init

@[expose] public section

set_option maxRecDepth 16384

noncomputable section

namespace Cert.Proof

open Idealize.ShloMosaic Idealize.SL.Sem Cert.Kernel

/-- The mask of the attention scores, named, stands for minus infinity. -/
theorem attn_preserves : Cert.preserves_Kernel_KernelIdeal :=
  IdealRules.named_const.statement Cert.KernelIdeal.κ "mask" .f32 0xF149F2CA#32 ⊥ rfl

/-- The attention kernel and its reference end with equal results, where the arguments are finite. -/
theorem attn_algebraic : Cert.algebraic_KernelIdeal_ReferenceIdeal_pre_finite (hPre_finite := Cert.Pre_finite.facts) := by
  pair_intro
  · run_from Cert.KernelIdeal.Gen.run_main m g
    · exact Cert.KernelIdeal.Gen.V_main_arg3 m c
    · exact Cert.KernelIdeal.Gen.V_main_arg4 m c
    · exact Cert.KernelIdeal.Gen.V_main_arg5 m c
    · exact Cert.KernelIdeal.Gen.V_main_arg6 m c
    · exact Cert.KernelIdeal.Gen.V_main_arg7 m c
  · run_from Cert.ReferenceIdeal.Value.run m' g'
    obtain ⟨hq, hk, hv, h3, h4, h5, h6⟩ := @Cert.Pre_finite.real_args Cert.Pre_finite.facts _ _ _ _ _ _ _ _ (hpre c)
    obtain ⟨a0, a1, a2, a3, a4, a5, a6, a7⟩ := hagree c
    rw [Cert.ReferenceIdeal.Attn.res_eq, a0, a1, a2, a3, a4, a5, a6, a7]
    exact (Cert.KernelIdeal.Attn.final m c hq hk hv h3 h4 h5 h6).symm

/-- The dense feed-forward kernel and its reference end with equal results. -/
theorem ffn_algebraic : Cert.algebraic_Kernel2Ideal_Reference2Ideal := by
  pair_intro
  · run_from Cert.Kernel2Ideal.Gen.run_main m g
  · run_from Cert.Reference2Ideal.Value.run m' g'
    exact (Cert.Kernel2Ideal.Ffn.final m c).symm

/-- The reference of the attention runs and keeps its arguments. -/
theorem attn_reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The reference of the dense feed-forward runs and keeps its arguments. -/
theorem ffn_reference_frame : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

/-- The reference of the experts runs and keeps its arguments. -/
theorem expert_reference_frame : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

/-- The experts' kernel and its reference end with equal results, where the tables are in range. -/
theorem expert_algebraic : Cert.algebraic_Kernel3Ideal_Reference3Ideal (hPre_tables := Cert.Pre_tables.Gen.facts) := by
  intro m g m' g' hpre hagree
  have hT := Cert.Kernel3Ideal.Expert.tables_of_pre (hPre_tables := Cert.Pre_tables.Gen.facts) m hpre
  refine ⟨fun c => Cert.Reference3Ideal.Expert.REF _ _ _ _ _ _, Cert.Kernel3Ideal.Expert.run_value m hT g, ?_⟩
  refine (θ_run Cert.Reference3Ideal.defs _ _).mono (fun r h c => ⟨(h c).1.trans ?_, (h c).2⟩) (Cert.Reference3Ideal.Expert.run_value m' g')
  obtain ⟨a0, a1, a2, a3, a4, a5⟩ := hagree c
  rw [a0, a1, a2, a3, a4, a5]

/-- The output projection of the second layer and its reference end with equal results. -/
theorem out_algebraic : Cert.algebraic_Kernel4Ideal_Reference4Ideal := by
  pair_intro
  · run_from Cert.Kernel4Ideal.Gen.run_main m g
  · refine (θ_run Cert.Reference4Ideal.defs _ _).mono (fun r h c => ⟨(h c).1.trans ?_, (h c).2⟩) (Cert.Reference4Ideal.Out.run_value m' g')
    obtain ⟨a0, a1, a2, a3⟩ := hagree c
    rw [a0, a1, a2, a3]
    exact (Cert.Kernel4Ideal.Out.final m c).symm

/-- The reference of the second layer's output projection runs and keeps its arguments. -/
theorem out_reference_frame : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

/-- The output projection of the first layer and its reference end with equal results. -/
theorem outPad_algebraic : Cert.algebraic_Kernel5Ideal_Reference5Ideal := by
  pair_intro
  · run_from Cert.Kernel5Ideal.Gen.run_main m g
    exact Cert.Kernel5Ideal.Gen.V_main_arg3 m c
  · refine (θ_run Cert.Reference5Ideal.defs _ _).mono (fun r h c => ⟨(h c).1.trans ?_, (h c).2⟩) (Cert.Reference5Ideal.Out.run_value m' g')
    obtain ⟨a0, a1, a2, a3⟩ := hagree c
    rw [a0, a1, a2, a3]
    exact (Cert.Kernel5Ideal.Out.final m c).symm

/-- The reference of the first layer's output projection runs and keeps its arguments. -/
theorem outPad_reference_frame : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

/-- Everything claimed. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.facts, Cert.Pre_tables.Gen.facts,
  fun m ρ _ => Cert.Kernel.Gen.frame m ρ, fun m ρ _ => Cert.KernelIdeal.Gen.frame m ρ, fun m ρ _ => Cert.KernelIdeal.Gen.frame m ρ,
  attn_reference_frame, fun m g _ => attn_reference_frame m g trivial,
  fun m ρ _ => Cert.Kernel2.Gen.frame m ρ, fun m ρ _ => Cert.Kernel2Ideal.Gen.frame m ρ, ffn_reference_frame,
  fun m ρ h => Cert.Kernel3.Expert.frame m ρ (Cert.Kernel3.Expert.ok_of_tables m (Cert.Kernel3.Expert.tables_of_pre (hPre_tables := Cert.Pre_tables.Gen.facts) m h)),
  fun m ρ h => Cert.Kernel3Ideal.Expert.frame m ρ (Cert.Kernel3Ideal.Expert.ok_of_tables m (Cert.Kernel3Ideal.Expert.tables_of_pre (hPre_tables := Cert.Pre_tables.Gen.facts) m h)),
  expert_reference_frame, fun m g _ => expert_reference_frame m g trivial,
  fun m ρ _ => Cert.Kernel4.Gen.frame m ρ, fun m ρ _ => Cert.Kernel4Ideal.Gen.frame m ρ, out_reference_frame,
  fun m ρ _ => Cert.Kernel5.Gen.frame m ρ, fun m ρ _ => Cert.Kernel5Ideal.Gen.frame m ρ, outPad_reference_frame,
  attn_preserves, attn_algebraic, trivial, ffn_algebraic, trivial, expert_algebraic, trivial, out_algebraic, trivial, outPad_algebraic⟩

end Cert.Proof

end
